-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "hundredth" .f32 0x3C23D70A#32 ((1 / 100 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x3 : Shape := ⟨2, ![262144, 3]⟩
abbrev S3 : Shape := ⟨1, ![3]⟩
abbrev S3x64 : Shape := ⟨2, ![3, 64]⟩
abbrev S64 : Shape := ⟨1, ![64]⟩
abbrev S64x64 : Shape := ⟨2, ![64, 64]⟩
abbrev S64x33 : Shape := ⟨2, ![64, 33]⟩
abbrev S33 : Shape := ⟨1, ![33]⟩
abbrev S35x64 : Shape := ⟨2, ![35, 64]⟩
abbrev S64x3 : Shape := ⟨2, ![64, 3]⟩
abbrev S64x9 : Shape := ⟨2, ![64, 9]⟩
abbrev S9 : Shape := ⟨1, ![9]⟩
abbrev S2x64 : Shape := ⟨2, ![2, 64]⟩
abbrev S64x27 : Shape := ⟨2, ![64, 27]⟩
abbrev S27 : Shape := ⟨1, ![27]⟩
abbrev S3x27 : Shape := ⟨2, ![3, 27]⟩
abbrev S3x262144 : Shape := ⟨2, ![3, 262144]⟩
abbrev S_ : Shape := ⟨0, ![]⟩
abbrev S3x1 : Shape := ⟨2, ![3, 1]⟩
abbrev S64x32 : Shape := ⟨2, ![64, 32]⟩
abbrev S32x64 : Shape := ⟨2, ![32, 64]⟩
abbrev S32 : Shape := ⟨1, ![32]⟩
abbrev S32x1 : Shape := ⟨2, ![32, 1]⟩
abbrev S64x1 : Shape := ⟨2, ![64, 1]⟩
abbrev S3x128 : Shape := ⟨2, ![3, 128]⟩
abbrev S128x3 : Shape := ⟨2, ![128, 3]⟩
abbrev S32x128 : Shape := ⟨2, ![32, 128]⟩
abbrev S128x32 : Shape := ⟨2, ![128, 32]⟩
abbrev S128 : Shape := ⟨1, ![128]⟩
abbrev S128x1 : Shape := ⟨2, ![128, 1]⟩
abbrev S5x128 : Shape := ⟨2, ![5, 128]⟩
abbrev S9x64 : Shape := ⟨2, ![9, 64]⟩
abbrev S9x128 : Shape := ⟨2, ![9, 128]⟩
abbrev S17x128 : Shape := ⟨2, ![17, 128]⟩
abbrev S5 : Shape := ⟨1, ![5]⟩
abbrev S17 : Shape := ⟨1, ![17]⟩
abbrev S17x1 : Shape := ⟨2, ![17, 1]⟩
abbrev S64x2 : Shape := ⟨2, ![64, 2]⟩
abbrev S27x1 : Shape := ⟨2, ![27, 1]⟩
abbrev S27x64 : Shape := ⟨2, ![27, 64]⟩
abbrev S3x16384 : Shape := ⟨2, ![3, 16384]⟩
abbrev S64x16384 : Shape := ⟨2, ![64, 16384]⟩
abbrev S32x16384 : Shape := ⟨2, ![32, 16384]⟩
abbrev S16384 : Shape := ⟨1, ![16384]⟩
abbrev S1x16384 : Shape := ⟨2, ![1, 16384]⟩
abbrev S2x16384 : Shape := ⟨2, ![2, 16384]⟩
abbrev S128x16384 : Shape := ⟨2, ![128, 16384]⟩
abbrev S17x16384 : Shape := ⟨2, ![17, 16384]⟩
abbrev S9x16384 : Shape := ⟨2, ![9, 16384]⟩
abbrev S27x16384 : Shape := ⟨2, ![27, 16384]⟩

abbrev nBuf : Space → Nat
  | .hbm => 95
  | .vmem => 26
  | .smem => 0
  | _ => 0

abbrev bufTy : (tb : Table) → Fin (tcTables nBuf tb) → BufTy
  | .hbm, ⟨0, _⟩ => ⟨S262144x3, .f32⟩
  | .hbm, ⟨1, _⟩ => ⟨S3, .f32⟩
  | .hbm, ⟨2, _⟩ => ⟨S3, .f32⟩
  | .hbm, ⟨3, _⟩ => ⟨S3, .f32⟩
  | .hbm, ⟨4, _⟩ => ⟨S3x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x33, .f32⟩
  | .hbm, ⟨9, _⟩ => ⟨S33, .f32⟩
  | .hbm, ⟨10, _⟩ => ⟨S35x64, .f32⟩
  | .hbm, ⟨11, _⟩ => ⟨S64, .f32⟩
  | .hbm, ⟨12, _⟩ => ⟨S64x3, .f32⟩
  | .hbm, ⟨13, _⟩ => ⟨S3, .f32⟩
  | .hbm, ⟨14, _⟩ => ⟨S35x64, .f32⟩
  | .hbm, ⟨15, _⟩ => ⟨S64, .f32⟩
  | .hbm, ⟨16, _⟩ => ⟨S64x9, .f32⟩
  | .hbm, ⟨17, _⟩ => ⟨S9, .f32⟩
  | .hbm, ⟨18, _⟩ => ⟨S2x64, .f32⟩
  | .hbm, ⟨19, _⟩ => ⟨S64, .f32⟩
  | .hbm, ⟨20, _⟩ => ⟨S64x27, .f32⟩
  | .hbm, ⟨21, _⟩ => ⟨S27, .f32⟩
  | .hbm, ⟨22, _⟩ => ⟨S27, .i32⟩
  | .hbm, ⟨23, _⟩ => ⟨S27, .i1⟩
  | .hbm, ⟨24, _⟩ => ⟨S27, .i1⟩
  | .hbm, ⟨25, _⟩ => ⟨S3x27, .f32⟩
  | .hbm, ⟨26, _⟩ => ⟨S3x262144, .f32⟩
  | .hbm, ⟨27, _⟩ => ⟨S3, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S3, .f32⟩
  | .hbm, ⟨34, _⟩ => ⟨S3, .f32⟩
  | .hbm, ⟨35, _⟩ => ⟨S3x1, .f32⟩
  | .hbm, ⟨36, _⟩ => ⟨S3x1, .f32⟩
  | .hbm, ⟨37, _⟩ => ⟨S3x1, .f32⟩
  | .hbm, ⟨38, _⟩ => ⟨S64x3, .f32⟩
  | .hbm, ⟨39, _⟩ => ⟨S64x64, .f32⟩
  | .hbm, ⟨40, _⟩ => ⟨S64x32, .f32⟩
  | .hbm, ⟨41, _⟩ => ⟨S32x64, .f32⟩
  | .hbm, ⟨42, _⟩ => ⟨S32, .f32⟩
  | .hbm, ⟨43, _⟩ => ⟨S32x1, .f32⟩
  | .hbm, ⟨44, _⟩ => ⟨S64x1, .f32⟩
  | .hbm, ⟨45, _⟩ => ⟨S64, .f32⟩
  | .hbm, ⟨46, _⟩ => ⟨S64x1, .f32⟩
  | .hbm, ⟨47, _⟩ => ⟨S3x64, .f32⟩
  | .hbm, ⟨48, _⟩ => ⟨S3x64, .f32⟩
  | .hbm, ⟨49, _⟩ => ⟨S3x128, .f32⟩
  | .hbm, ⟨50, _⟩ => ⟨S128x3, .f32⟩
  | .hbm, ⟨51, _⟩ => ⟨S32x64, .f32⟩
  | .hbm, ⟨52, _⟩ => ⟨S32x64, .f32⟩
  | .hbm, ⟨53, _⟩ => ⟨S32x128, .f32⟩
  | .hbm, ⟨54, _⟩ => ⟨S128x32, .f32⟩
  | .hbm, ⟨55, _⟩ => ⟨S128, .f32⟩
  | .hbm, ⟨56, _⟩ => ⟨S128x1, .f32⟩
  | .hbm, ⟨57, _⟩ => ⟨S3x64, .f32⟩
  | .hbm, ⟨58, _⟩ => ⟨S_, .f32⟩
  | .hbm, ⟨59, _⟩ => ⟨S3x64, .f32⟩
  | .hbm, ⟨60, _⟩ => ⟨S3x128, .f32⟩
  | .hbm, ⟨61, _⟩ => ⟨S_, .f32⟩
  | .hbm, ⟨62, _⟩ => ⟨S5x128, .f32⟩
  | .hbm, ⟨63, _⟩ => ⟨S_, .f32⟩
  | .hbm, ⟨64, _⟩ => ⟨S9x64, .f32⟩
  | .hbm, ⟨65, _⟩ => ⟨S9x64, .f32⟩
  | .hbm, ⟨66, _⟩ => ⟨S9x128, .f32⟩
  | .hbm, ⟨67, _⟩ => ⟨S17x128, .f32⟩
  | .hbm, ⟨68, _⟩ => ⟨S_, .f32⟩
  | .hbm, ⟨69, _⟩ => ⟨S5, .f32⟩
  | .hbm, ⟨70, _⟩ => ⟨S17, .f32⟩
  | .hbm, ⟨71, _⟩ => ⟨S17x1, .f32⟩
  | .hbm, ⟨72, _⟩ => ⟨S64x2, .f32⟩
  | .hbm, ⟨73, _⟩ => ⟨S_, .f32⟩
  | .hbm, ⟨74, _⟩ => ⟨S64x2, .f32⟩
  | .hbm, ⟨75, _⟩ => ⟨S64x2, .f32⟩
  | .hbm, ⟨76, _⟩ => ⟨S_, .i32⟩
  | .hbm, ⟨77, _⟩ => ⟨S27, .i32⟩
  | .hbm, ⟨78, _⟩ => ⟨S27, .i32⟩
  | .hbm, ⟨79, _⟩ => ⟨S27, .i32⟩
  | .hbm, ⟨80, _⟩ => ⟨S27x1, .i32⟩
  | .hbm, ⟨81, _⟩ => ⟨S64x27, .f32⟩
  | .hbm, ⟨82, _⟩ => ⟨S27x64, .f32⟩
  | .hbm, ⟨83, _⟩ => ⟨S_, .i32⟩
  | .hbm, ⟨84, _⟩ => ⟨S27, .i32⟩
  | .hbm, ⟨85, _⟩ => ⟨S27, .i32⟩
  | .hbm, ⟨86, _⟩ => ⟨S27, .i32⟩
  | .hbm, ⟨87, _⟩ => ⟨S27x1, .i32⟩
  | .hbm, ⟨88, _⟩ => ⟨S27, .f32⟩
  | .hbm, ⟨89, _⟩ => ⟨S27x1, .f32⟩
  | .hbm, ⟨90, _⟩ => ⟨S64x1, .f32⟩
  | .hbm, ⟨91, _⟩ => ⟨S64x1, .f32⟩
  | .hbm, ⟨92, _⟩ => ⟨S64x1, .f32⟩
  | .hbm, ⟨93, _⟩ => ⟨S3x262144, .f32⟩
  | .hbm, ⟨94, _⟩ => ⟨S262144x3, .f32⟩
  | .local _ .vmem, ⟨0, _⟩ => ⟨S3x16384, .f32⟩
  | .local _ .vmem, ⟨1, _⟩ => ⟨S3x16384, .f32⟩
  | .local _ .vmem, ⟨2, _⟩ => ⟨S3x1, .f32⟩
  | .local _ .vmem, ⟨3, _⟩ => ⟨S3x1, .f32⟩
  | .local _ .vmem, ⟨4, _⟩ => ⟨S3x1, .f32⟩
  | .local _ .vmem, ⟨5, _⟩ => ⟨S64x3, .f32⟩
  | .local _ .vmem, ⟨6, _⟩ => ⟨S64x1, .f32⟩
  | .local _ .vmem, ⟨7, _⟩ => ⟨S64x64, .f32⟩
  | .local _ .vmem, ⟨8, _⟩ => ⟨S64x1, .f32⟩
  | .local _ .vmem, ⟨9, _⟩ => ⟨S32x64, .f32⟩
  | .local _ .vmem, ⟨10, _⟩ => ⟨S32x1, .f32⟩
  | .local _ .vmem, ⟨11, _⟩ => ⟨S64x1, .f32⟩
  | .local _ .vmem, ⟨12, _⟩ => ⟨S64x64, .f32⟩
  | .local _ .vmem, ⟨13, _⟩ => ⟨S3x64, .f32⟩
  | .local _ .vmem, ⟨14, _⟩ => ⟨S128x3, .f32⟩
  | .local _ .vmem, ⟨15, _⟩ => ⟨S128x32, .f32⟩
  | .local _ .vmem, ⟨16, _⟩ => ⟨S128x1, .f32⟩
  | .local _ .vmem, ⟨17, _⟩ => ⟨S17x128, .f32⟩
  | .local _ .vmem, ⟨18, _⟩ => ⟨S17x1, .f32⟩
  | .local _ .vmem, ⟨19, _⟩ => ⟨S64x2, .f32⟩
  | .local _ .vmem, ⟨20, _⟩ => ⟨S64x1, .f32⟩
  | .local _ .vmem, ⟨21, _⟩ => ⟨S27x64, .f32⟩
  | .local _ .vmem, ⟨22, _⟩ => ⟨S27x1, .f32⟩
  | .local _ .vmem, ⟨23, _⟩ => ⟨S3x27, .f32⟩
  | .local _ .vmem, ⟨24, _⟩ => ⟨S3x16384, .f32⟩
  | .local _ .vmem, ⟨25, _⟩ => ⟨S3x16384, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_c_0 : Ref sig .tc := ⟨.hbm, 23, rfl⟩
abbrev main_c_1 : Ref sig .tc := ⟨.hbm, 24, rfl⟩
abbrev main_cst : Ref sig .tc := ⟨.hbm, 25, rfl⟩
abbrev main_v0 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v1 : Ref sig .tc := ⟨.hbm, 30, rfl⟩
abbrev main_cst_2 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_c_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S17x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S17x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S27x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S27x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x27 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S3x16384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "hundredth" => some ((1 / 100 : ℝ) : EReal)
  | _ => none
-- ==== ReferenceIdeal.lean ====
abbrev S262144x3 : Shape := ⟨2, ![262144, 3]⟩
abbrev S3 : Shape := ⟨1, ![3]⟩
abbrev S3x64 : Shape := ⟨2, ![3, 64]⟩
abbrev S64 : Shape := ⟨1, ![64]⟩
abbrev S64x64 : Shape := ⟨2, ![64, 64]⟩
abbrev S64x33 : Shape := ⟨2, ![64, 33]⟩
abbrev S33 : Shape := ⟨1, ![33]⟩
abbrev S35x64 : Shape := ⟨2, ![35, 64]⟩
abbrev S64x3 : Shape := ⟨2, ![64, 3]⟩
abbrev S64x9 : Shape := ⟨2, ![64, 9]⟩
abbrev S9 : Shape := ⟨1, ![9]⟩
abbrev S2x64 : Shape := ⟨2, ![2, 64]⟩
abbrev S64x27 : Shape := ⟨2, ![64, 27]⟩
abbrev S27 : Shape := ⟨1, ![27]⟩
abbrev S262144x64 : Shape := ⟨2, ![262144, 64]⟩
abbrev S1x64 : Shape := ⟨2, ![1, 64]⟩
abbrev S_ : Shape := ⟨0, ![]⟩
abbrev S262144x33 : Shape := ⟨2, ![262144, 33]⟩
abbrev S1x33 : Shape := ⟨2, ![1, 33]⟩
abbrev S262144x1 : Shape := ⟨2, ![262144, 1]⟩
abbrev S262144 : Shape := ⟨1, ![262144]⟩
abbrev S262144x32 : Shape := ⟨2, ![262144, 32]⟩
abbrev S1x3 : Shape := ⟨2, ![1, 3]⟩
abbrev S262144x2 : Shape := ⟨2, ![262144, 2]⟩
abbrev S262144x35 : Shape := ⟨2, ![262144, 35]⟩
abbrev S262144x9 : Shape := ⟨2, ![262144, 9]⟩
abbrev S1x9 : Shape := ⟨2, ![1, 9]⟩
abbrev S262144x27 : Shape := ⟨2, ![262144, 27]⟩
abbrev S1x27 : Shape := ⟨2, ![1, 27]⟩
abbrev S262144x9x3 : Shape := ⟨3, ![262144, 9, 3]⟩

abbrev nBuf : Space → Nat
  | .hbm => 453
  | .vmem => 0
  | .smem => 0
  | _ => 0

abbrev hbmTy0_0 (i : Nat) : BufTy := match i % 128 with
  | 0 => ⟨S262144x3, .f32⟩
  | 1 => ⟨S3, .f32⟩
  | 2 => ⟨S3, .f32⟩
  | 3 => ⟨S3, .f32⟩
  | 4 => ⟨S3x64, .f32⟩
  | 5 => ⟨S64, .f32⟩
  | 6 => ⟨S64x64, .f32⟩
  | 7 => ⟨S64, .f32⟩
  | 8 => ⟨S64x33, .f32⟩
  | 9 => ⟨S33, .f32⟩
  | 10 => ⟨S35x64, .f32⟩
  | 11 => ⟨S64, .f32⟩
  | 12 => ⟨S64x3, .f32⟩
  | 13 => ⟨S3, .f32⟩
  | 14 => ⟨S35x64, .f32⟩
  | 15 => ⟨S64, .f32⟩
  | 16 => ⟨S64x9, .f32⟩
  | 17 => ⟨S9, .f32⟩
  | 18 => ⟨S2x64, .f32⟩
  | 19 => ⟨S64, .f32⟩
  | 20 => ⟨S64x27, .f32⟩
  | 21 => ⟨S27, .f32⟩
  | 22 => ⟨S262144x64, .f32⟩
  | 23 => ⟨S1x64, .f32⟩
  | 24 => ⟨S262144x64, .f32⟩
  | 25 => ⟨S262144x64, .f32⟩
  | 26 => ⟨S_, .f32⟩
  | 27 => ⟨S262144x64, .f32⟩
  | 28 => ⟨S262144x64, .f32⟩
  | 29 => ⟨S_, .f32⟩
  | 30 => ⟨S262144x64, .f32⟩
  | 31 => ⟨S262144x64, .f32⟩
  | 32 => ⟨S262144x64, .f32⟩
  | 33 => ⟨S262144x64, .f32⟩
  | 34 => ⟨S262144x64, .i1⟩
  | 35 => ⟨S262144x64, .f32⟩
  | 36 => ⟨S262144x64, .f32⟩
  | 37 => ⟨S262144x64, .f32⟩
  | 38 => ⟨S262144x64, .f32⟩
  | 39 => ⟨S262144x64, .f32⟩
  | 40 => ⟨S262144x64, .f32⟩
  | 41 => ⟨S262144x64, .f32⟩
  | 42 => ⟨S262144x64, .f32⟩
  | 43 => ⟨S_, .f32⟩
  | 44 => ⟨S262144x64, .f32⟩
  | 45 => ⟨S262144x64, .i1⟩
  | 46 => ⟨S_, .f32⟩
  | 47 => ⟨S262144x64, .f32⟩
  | 48 => ⟨S262144x64, .f32⟩
  | 49 => ⟨S_, .f32⟩
  | 50 => ⟨S262144x64, .f32⟩
  | 51 => ⟨S262144x64, .i1⟩
  | 52 => ⟨S_, .f32⟩
  | 53 => ⟨S262144x64, .f32⟩
  | 54 => ⟨S262144x64, .f32⟩
  | 55 => ⟨S262144x64, .f32⟩
  | 56 => ⟨S262144x64, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S262144x64, .f32⟩
  | 65 => ⟨S262144x64, .i1⟩
  | 66 => ⟨S_, .f32⟩
  | 67 => ⟨S262144x64, .f32⟩
  | 68 => ⟨S262144x64, .f32⟩
  | 69 => ⟨S262144x64, .f32⟩
  | 70 => ⟨S262144x64, .f32⟩
  | 71 => ⟨S262144x64, .f32⟩
  | 72 => ⟨S_, .f32⟩
  | 73 => ⟨S262144x64, .f32⟩
  | 74 => ⟨S262144x64, .f32⟩
  | 75 => ⟨S_, .f32⟩
  | 76 => ⟨S262144x64, .f32⟩
  | 77 => ⟨S262144x64, .f32⟩
  | 78 => ⟨S262144x64, .f32⟩
  | 79 => ⟨S1x64, .f32⟩
  | 80 => ⟨S262144x64, .f32⟩
  | 81 => ⟨S262144x64, .f32⟩
  | 82 => ⟨S_, .f32⟩
  | 83 => ⟨S262144x64, .f32⟩
  | 84 => ⟨S262144x64, .f32⟩
  | 85 => ⟨S_, .f32⟩
  | 86 => ⟨S262144x64, .f32⟩
  | 87 => ⟨S262144x64, .f32⟩
  | 88 => ⟨S262144x64, .f32⟩
  | 89 => ⟨S262144x64, .f32⟩
  | 90 => ⟨S262144x64, .i1⟩
  | 91 => ⟨S262144x64, .f32⟩
  | 92 => ⟨S262144x64, .f32⟩
  | 93 => ⟨S262144x64, .f32⟩
  | 94 => ⟨S262144x64, .f32⟩
  | 95 => ⟨S262144x64, .f32⟩
  | 96 => ⟨S262144x64, .f32⟩
  | 97 => ⟨S262144x64, .f32⟩
  | 98 => ⟨S262144x64, .f32⟩
  | 99 => ⟨S_, .f32⟩
  | 100 => ⟨S262144x64, .f32⟩
  | 101 => ⟨S262144x64, .i1⟩
  | 102 => ⟨S_, .f32⟩
  | 103 => ⟨S262144x64, .f32⟩
  | 104 => ⟨S262144x64, .f32⟩
  | 105 => ⟨S_, .f32⟩
  | 106 => ⟨S262144x64, .f32⟩
  | 107 => ⟨S262144x64, .i1⟩
  | 108 => ⟨S_, .f32⟩
  | 109 => ⟨S262144x64, .f32⟩
  | 110 => ⟨S262144x64, .f32⟩
  | 111 => ⟨S262144x64, .f32⟩
  | 112 => ⟨S262144x64, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S262144x64, .f32⟩
  | 121 => ⟨S262144x64, .i1⟩
  | 122 => ⟨S_, .f32⟩
  | 123 => ⟨S262144x64, .f32⟩
  | 124 => ⟨S262144x64, .f32⟩
  | 125 => ⟨S262144x64, .f32⟩
  | 126 => ⟨S262144x64, .f32⟩
  | 127 => ⟨S262144x64, .f32⟩
  | _ => ⟨S262144x3, .f32⟩

abbrev hbmTy0_1 (i : Nat) : BufTy := match i % 128 with
  | 0 => ⟨S_, .f32⟩
  | 1 => ⟨S262144x64, .f32⟩
  | 2 => ⟨S262144x64, .f32⟩
  | 3 => ⟨S_, .f32⟩
  | 4 => ⟨S262144x64, .f32⟩
  | 5 => ⟨S262144x64, .f32⟩
  | 6 => ⟨S262144x33, .f32⟩
  | 7 => ⟨S1x33, .f32⟩
  | 8 => ⟨S262144x33, .f32⟩
  | 9 => ⟨S262144x33, .f32⟩
  | 10 => ⟨S262144x1, .f32⟩
  | 11 => ⟨S262144, .f32⟩
  | 12 => ⟨S_, .f32⟩
  | 13 => ⟨S_, .f32⟩
  | 14 => ⟨S_, .f32⟩
  | 15 => ⟨S262144, .f32⟩
  | 16 => ⟨S262144x1, .f32⟩
  | 17 => ⟨S_, .f32⟩
  | 18 => ⟨S262144x33, .f32⟩
  | 19 => ⟨S262144x64, .f32⟩
  | 20 => ⟨S_, .f32⟩
  | 21 => ⟨S262144x64, .f32⟩
  | 22 => ⟨S262144x64, .f32⟩
  | 23 => ⟨S262144x64, .f32⟩
  | 24 => ⟨S_, .f32⟩
  | 25 => ⟨S262144x64, .f32⟩
  | 26 => ⟨S262144x64, .f32⟩
  | 27 => ⟨S262144x64, .f32⟩
  | 28 => ⟨S_, .f32⟩
  | 29 => ⟨S262144x64, .f32⟩
  | 30 => ⟨S262144x64, .f32⟩
  | 31 => ⟨S262144x64, .f32⟩
  | 32 => ⟨S_, .f32⟩
  | 33 => ⟨S262144x64, .f32⟩
  | 34 => ⟨S262144x64, .f32⟩
  | 35 => ⟨S262144x3, .f32⟩
  | 36 => ⟨S262144x3, .f32⟩
  | 37 => ⟨S_, .f32⟩
  | 38 => ⟨S262144, .f32⟩
  | 39 => ⟨S262144x1, .f32⟩
  | 40 => ⟨S262144x1, .f32⟩
  | 41 => ⟨S_, .f32⟩
  | 42 => ⟨S262144x1, .f32⟩
  | 43 => ⟨S262144x1, .f32⟩
  | 44 => ⟨S262144x3, .f32⟩
  | 45 => ⟨S262144x3, .f32⟩
  | 46 => ⟨S262144x64, .f32⟩
  | 47 => ⟨S1x64, .f32⟩
  | 48 => ⟨S262144x64, .f32⟩
  | 49 => ⟨S262144x64, .f32⟩
  | 50 => ⟨S_, .f32⟩
  | 51 => ⟨S262144x64, .f32⟩
  | 52 => ⟨S262144x64, .f32⟩
  | 53 => ⟨S_, .f32⟩
  | 54 => ⟨S262144x64, .f32⟩
  | 55 => ⟨S262144x64, .f32⟩
  | 56 => ⟨S262144x64, .f32⟩
  | 57 => ⟨S262144x64, .f32⟩
  | 58 => ⟨S262144x64, .i1⟩
  | 59 => ⟨S262144x64, .f32⟩
  | 60 => ⟨S262144x64, .f32⟩
  | 61 => ⟨S262144x64, .f32⟩
  | 62 => ⟨S262144x64, .f32⟩
  | 63 => ⟨S262144x64, .f32⟩
  | 64 => ⟨S262144x64, .f32⟩
  | 65 => ⟨S262144x64, .f32⟩
  | 66 => ⟨S262144x64, .f32⟩
  | 67 => ⟨S_, .f32⟩
  | 68 => ⟨S262144x64, .f32⟩
  | 69 => ⟨S262144x64, .f32⟩
  | 70 => ⟨S262144x64, .f32⟩
  | 71 => ⟨S1x64, .f32⟩
  | 72 => ⟨S262144x64, .f32⟩
  | 73 => ⟨S262144x64, .f32⟩
  | 74 => ⟨S_, .f32⟩
  | 75 => ⟨S262144x64, .f32⟩
  | 76 => ⟨S262144x64, .f32⟩
  | 77 => ⟨S_, .f32⟩
  | 78 => ⟨S262144x64, .f32⟩
  | 79 => ⟨S262144x64, .f32⟩
  | 80 => ⟨S262144x64, .f32⟩
  | 81 => ⟨S262144x64, .f32⟩
  | 82 => ⟨S262144x64, .i1⟩
  | 83 => ⟨S262144x64, .f32⟩
  | 84 => ⟨S262144x64, .f32⟩
  | 85 => ⟨S262144x64, .f32⟩
  | 86 => ⟨S262144x64, .f32⟩
  | 87 => ⟨S262144x64, .f32⟩
  | 88 => ⟨S262144x64, .f32⟩
  | 89 => ⟨S262144x64, .f32⟩
  | 90 => ⟨S262144x64, .f32⟩
  | 91 => ⟨S_, .f32⟩
  | 92 => ⟨S262144x64, .f32⟩
  | 93 => ⟨S262144x64, .f32⟩
  | 94 => ⟨S262144x33, .f32⟩
  | 95 => ⟨S1x33, .f32⟩
  | 96 => ⟨S262144x33, .f32⟩
  | 97 => ⟨S262144x33, .f32⟩
  | 98 => ⟨S262144x32, .f32⟩
  | 99 => ⟨S3, .f32⟩
  | 100 => ⟨S_, .f32⟩
  | 101 => ⟨S_, .f32⟩
  | 102 => ⟨S_, .f32⟩
  | 103 => ⟨S_, .f32⟩
  | 104 => ⟨S_, .f32⟩
  | 105 => ⟨S3, .f32⟩
  | 106 => ⟨S3, .f32⟩
  | 107 => ⟨S1x3, .f32⟩
  | 108 => ⟨S262144x3, .f32⟩
  | 109 => ⟨S262144x3, .f32⟩
  | 110 => ⟨S262144x3, .f32⟩
  | 111 => ⟨S_, .f32⟩
  | 112 => ⟨S262144, .f32⟩
  | 113 => ⟨S262144x1, .f32⟩
  | 114 => ⟨S262144x1, .f32⟩
  | 115 => ⟨S_, .f32⟩
  | 116 => ⟨S262144x1, .f32⟩
  | 117 => ⟨S262144x1, .f32⟩
  | 118 => ⟨S262144x3, .f32⟩
  | 119 => ⟨S262144x3, .f32⟩
  | 120 => ⟨S1x3, .f32⟩
  | 121 => ⟨S262144x3, .f32⟩
  | 122 => ⟨S262144x3, .f32⟩
  | 123 => ⟨S262144x3, .f32⟩
  | 124 => ⟨S_, .f32⟩
  | 125 => ⟨S262144, .f32⟩
  | 126 => ⟨S262144x1, .f32⟩
  | 127 => ⟨S262144x1, .f32⟩
  | _ => ⟨S262144x3, .f32⟩

abbrev hbmTy0_2 (i : Nat) : BufTy := match i % 128 with
  | 0 => ⟨S_, .f32⟩
  | 1 => ⟨S262144x1, .f32⟩
  | 2 => ⟨S262144x1, .f32⟩
  | 3 => ⟨S262144x3, .f32⟩
  | 4 => ⟨S262144x3, .f32⟩
  | 5 => ⟨S262144x3, .f32⟩
  | 6 => ⟨S_, .f32⟩
  | 7 => ⟨S262144, .f32⟩
  | 8 => ⟨S_, .f32⟩
  | 9 => ⟨S_, .f32⟩
  | 10 => ⟨S_, .f32⟩
  | 11 => ⟨S262144, .f32⟩
  | 12 => ⟨S262144, .f32⟩
  | 13 => ⟨S_, .f32⟩
  | 14 => ⟨S262144, .f32⟩
  | 15 => ⟨S262144, .f32⟩
  | 16 => ⟨S262144x3, .f32⟩
  | 17 => ⟨S_, .f32⟩
  | 18 => ⟨S262144, .f32⟩
  | 19 => ⟨S_, .f32⟩
  | 20 => ⟨S_, .f32⟩
  | 21 => ⟨S_, .f32⟩
  | 22 => ⟨S262144, .f32⟩
  | 23 => ⟨S262144, .f32⟩
  | 24 => ⟨S_, .f32⟩
  | 25 => ⟨S262144, .f32⟩
  | 26 => ⟨S262144, .f32⟩
  | 27 => ⟨S262144, .f32⟩
  | 28 => ⟨S_, .f32⟩
  | 29 => ⟨S262144, .f32⟩
  | 30 => ⟨S262144, .f32⟩
  | 31 => ⟨S_, .f32⟩
  | 32 => ⟨S262144, .f32⟩
  | 33 => ⟨S262144, .f32⟩
  | 34 => ⟨S262144, .f32⟩
  | 35 => ⟨S_, .f32⟩
  | 36 => ⟨S262144, .f32⟩
  | 37 => ⟨S262144, .f32⟩
  | 38 => ⟨S_, .f32⟩
  | 39 => ⟨S262144, .f32⟩
  | 40 => ⟨S262144, .f32⟩
  | 41 => ⟨S262144, .f32⟩
  | 42 => ⟨S_, .f32⟩
  | 43 => ⟨S262144, .f32⟩
  | 44 => ⟨S262144, .f32⟩
  | 45 => ⟨S262144, .f32⟩
  | 46 => ⟨S_, .f32⟩
  | 47 => ⟨S262144, .f32⟩
  | 48 => ⟨S262144, .f32⟩
  | 49 => ⟨S262144, .f32⟩
  | 50 => ⟨S_, .f32⟩
  | 51 => ⟨S262144, .f32⟩
  | 52 => ⟨S262144, .f32⟩
  | 53 => ⟨S262144, .f32⟩
  | 54 => ⟨S_, .f32⟩
  | 55 => ⟨S262144, .f32⟩
  | 56 => ⟨S262144, .f32⟩
  | 57 => ⟨S262144, .f32⟩
  | 58 => ⟨S_, .f32⟩
  | 59 => ⟨S262144, .f32⟩
  | 60 => ⟨S262144, .f32⟩
  | 61 => ⟨S262144, .f32⟩
  | 62 => ⟨S_, .f32⟩
  | 63 => ⟨S262144, .f32⟩
  | 64 => ⟨S262144, .f32⟩
  | 65 => ⟨S_, .f32⟩
  | 66 => ⟨S262144, .f32⟩
  | 67 => ⟨S262144, .i1⟩
  | 68 => ⟨S262144, .f32⟩
  | 69 => ⟨S262144, .f32⟩
  | 70 => ⟨S_, .f32⟩
  | 71 => ⟨S262144, .f32⟩
  | 72 => ⟨S262144, .f32⟩
  | 73 => ⟨S262144, .f32⟩
  | 74 => ⟨S262144, .f32⟩
  | 75 => ⟨S_, .f32⟩
  | 76 => ⟨S262144, .f32⟩
  | 77 => ⟨S262144, .f32⟩
  | 78 => ⟨S_, .f32⟩
  | 79 => ⟨S262144, .f32⟩
  | 80 => ⟨S262144, .f32⟩
  | 81 => ⟨S262144, .f32⟩
  | 82 => ⟨S_, .f32⟩
  | 83 => ⟨S262144, .f32⟩
  | 84 => ⟨S262144, .f32⟩
  | 85 => ⟨S_, .f32⟩
  | 86 => ⟨S262144, .f32⟩
  | 87 => ⟨S262144, .f32⟩
  | 88 => ⟨S262144, .f32⟩
  | 89 => ⟨S_, .f32⟩
  | 90 => ⟨S262144, .f32⟩
  | 91 => ⟨S262144, .f32⟩
  | 92 => ⟨S262144, .f32⟩
  | 93 => ⟨S_, .f32⟩
  | 94 => ⟨S262144, .f32⟩
  | 95 => ⟨S262144, .f32⟩
  | 96 => ⟨S262144, .f32⟩
  | 97 => ⟨S_, .f32⟩
  | 98 => ⟨S262144, .f32⟩
  | 99 => ⟨S262144, .f32⟩
  | 100 => ⟨S262144, .f32⟩
  | 101 => ⟨S_, .f32⟩
  | 102 => ⟨S262144, .f32⟩
  | 103 => ⟨S262144, .f32⟩
  | 104 => ⟨S262144, .f32⟩
  | 105 => ⟨S_, .f32⟩
  | 106 => ⟨S262144, .f32⟩
  | 107 => ⟨S262144, .f32⟩
  | 108 => ⟨S262144, .f32⟩
  | 109 => ⟨S_, .f32⟩
  | 110 => ⟨S262144, .f32⟩
  | 111 => ⟨S262144, .f32⟩
  | 112 => ⟨S_, .f32⟩
  | 113 => ⟨S262144, .f32⟩
  | 114 => ⟨S262144, .i1⟩
  | 115 => ⟨S262144, .f32⟩
  | 116 => ⟨S262144, .f32⟩
  | 117 => ⟨S_, .f32⟩
  | 118 => ⟨S262144, .f32⟩
  | 119 => ⟨S262144, .f32⟩
  | 120 => ⟨S262144, .f32⟩
  | 121 => ⟨S262144x1, .f32⟩
  | 122 => ⟨S262144x1, .f32⟩
  | 123 => ⟨S262144x2, .f32⟩
  | 124 => ⟨S_, .f32⟩
  | 125 => ⟨S262144x2, .f32⟩
  | 126 => ⟨S262144x2, .f32⟩
  | 127 => ⟨S262144x35, .f32⟩
  | _ => ⟨S262144x3, .f32⟩

abbrev hbmTy0_3 (i : Nat) : BufTy := match i % 128 with
  | 0 => ⟨S262144x64, .f32⟩
  | 1 => ⟨S1x64, .f32⟩
  | 2 => ⟨S262144x64, .f32⟩
  | 3 => ⟨S262144x64, .f32⟩
  | 4 => ⟨S_, .f32⟩
  | 5 => ⟨S262144x64, .f32⟩
  | 6 => ⟨S262144x64, .f32⟩
  | 7 => ⟨S262144x3, .f32⟩
  | 8 => ⟨S1x3, .f32⟩
  | 9 => ⟨S262144x3, .f32⟩
  | 10 => ⟨S262144x3, .f32⟩
  | 11 => ⟨S262144x3, .f32⟩
  | 12 => ⟨S262144x3, .f32⟩
  | 13 => ⟨S_, .f32⟩
  | 14 => ⟨S262144x3, .f32⟩
  | 15 => ⟨S262144x3, .f32⟩
  | 16 => ⟨S_, .f32⟩
  | 17 => ⟨S262144x3, .f32⟩
  | 18 => ⟨S262144x3, .f32⟩
  | 19 => ⟨S262144x64, .f32⟩
  | 20 => ⟨S1x64, .f32⟩
  | 21 => ⟨S262144x64, .f32⟩
  | 22 => ⟨S262144x64, .f32⟩
  | 23 => ⟨S_, .f32⟩
  | 24 => ⟨S262144x64, .f32⟩
  | 25 => ⟨S262144x64, .f32⟩
  | 26 => ⟨S262144x9, .f32⟩
  | 27 => ⟨S1x9, .f32⟩
  | 28 => ⟨S262144x9, .f32⟩
  | 29 => ⟨S262144x9, .f32⟩
  | 30 => ⟨S262144x64, .f32⟩
  | 31 => ⟨S1x64, .f32⟩
  | 32 => ⟨S262144x64, .f32⟩
  | 33 => ⟨S262144x64, .f32⟩
  | 34 => ⟨S_, .f32⟩
  | 35 => ⟨S262144x64, .f32⟩
  | 36 => ⟨S262144x64, .f32⟩
  | 37 => ⟨S262144x27, .f32⟩
  | 38 => ⟨S1x27, .f32⟩
  | 39 => ⟨S262144x27, .f32⟩
  | 40 => ⟨S262144x27, .f32⟩
  | 41 => ⟨S_, .f32⟩
  | 42 => ⟨S262144x27, .f32⟩
  | 43 => ⟨S262144x27, .f32⟩
  | 44 => ⟨S262144x9x3, .f32⟩
  | 45 => ⟨S262144x3, .f32⟩
  | 46 => ⟨S262144x3, .f32⟩
  | 47 => ⟨S1x3, .f32⟩
  | 48 => ⟨S262144x3, .f32⟩
  | 49 => ⟨S262144x3, .f32⟩
  | 50 => ⟨S_, .f32⟩
  | 51 => ⟨S262144, .f32⟩
  | 52 => ⟨S262144x1, .f32⟩
  | 53 => ⟨S_, .f32⟩
  | 54 => ⟨S262144x1, .f32⟩
  | 55 => ⟨S262144x1, .f32⟩
  | 56 => ⟨S262144x3, .f32⟩
  | 57 => ⟨S262144x3, .f32⟩
  | 58 => ⟨S1x3, .f32⟩
  | 59 => ⟨S262144x3, .f32⟩
  | 60 => ⟨S262144x3, .f32⟩
  | 61 => ⟨S_, .f32⟩
  | 62 => ⟨S_, .f32⟩
  | 63 => ⟨S_, .f32⟩
  | 64 => ⟨S262144x3, .f32⟩
  | 65 => ⟨S262144x3, .f32⟩
  | 66 => ⟨S_, .f32⟩
  | 67 => ⟨S262144x3, .f32⟩
  | 68 => ⟨S262144x3, .f32⟩
  | _ => ⟨S262144x3, .f32⟩

abbrev hbmTy (i : Nat) : BufTy := match i / 128 with
  | 0 => hbmTy0_0 i
  | 1 => hbmTy0_1 i
  | 2 => hbmTy0_2 i
  | 3 => hbmTy0_3 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_v5 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v6_0 : Ref sig .tc := ⟨.hbm, 42, rfl⟩
abbrev main_call0_cst_0 : Ref sig .tc := ⟨.hbm, 43, rfl⟩
abbrev main_call0_v13 : Ref sig .tc := ⟨.hbm, 44, rfl⟩
abbrev main_call0_v14 : Ref sig .tc := ⟨.hbm, 45, rfl⟩
abbrev main_call0_cst_1 : Ref sig .tc := ⟨.hbm, 46, rfl⟩
abbrev main_call0_v15 : Ref sig .tc := ⟨.hbm, 47, rfl⟩
abbrev main_call0_v16 : Ref sig .tc := ⟨.hbm, 48, rfl⟩
abbrev main_call0_cst_2 : Ref sig .tc := ⟨.hbm, 49, rfl⟩
abbrev main_call0_v17 : Ref sig .tc := ⟨.hbm, 50, rfl⟩
abbrev main_call0_v18 : Ref sig .tc := ⟨.hbm, 51, rfl⟩
abbrev main_call0_cst_3 : Ref sig .tc := ⟨.hbm, 52, rfl⟩
abbrev main_call0_v19 : Ref sig .tc := ⟨.hbm, 53, rfl⟩
abbrev main_call0_v20 : Ref sig .tc := ⟨.hbm, 54, rfl⟩
abbrev main_call0_v21 : Ref sig .tc := ⟨.hbm, 55, rfl⟩
abbrev main_v6_1 : Ref sig .tc := ⟨.hbm, 56, rfl⟩
abbrev main_call0_cst_4 : Ref sig .tc := ⟨.hbm, 57, rfl⟩
abbrev main_call0_cst_5 : Ref sig .tc := ⟨.hbm, 58, rfl⟩
abbrev main_call0_v23 : Ref sig .tc := ⟨.hbm, 59, rfl⟩
abbrev main_call0_cst_6 : Ref sig .tc := ⟨.hbm, 60, rfl⟩
abbrev main_call0_cst_7 : Ref sig .tc := ⟨.hbm, 61, rfl⟩
abbrev main_call0_v24 : Ref sig .tc := ⟨.hbm, 62, rfl⟩
abbrev main_call0_cst_8 : Ref sig .tc := ⟨.hbm, 63, rfl⟩
abbrev main_call0_v25 : Ref sig .tc := ⟨.hbm, 64, rfl⟩
abbrev main_call0_v26 : Ref sig .tc := ⟨.hbm, 65, rfl⟩
abbrev main_call0_cst_9 : Ref sig .tc := ⟨.hbm, 66, rfl⟩
abbrev main_call0_v27 : Ref sig .tc := ⟨.hbm, 67, rfl⟩
abbrev main_call0_v28 : Ref sig .tc := ⟨.hbm, 68, rfl⟩
abbrev main_call0_v29 : Ref sig .tc := ⟨.hbm, 69, rfl⟩
abbrev main_call0_v30 : Ref sig .tc := ⟨.hbm, 70, rfl⟩
abbrev main_call0_v31 : Ref sig .tc := ⟨.hbm, 71, rfl⟩
abbrev main_call0_cst_10 : Ref sig .tc := ⟨.hbm, 72, rfl⟩
abbrev main_call0_v32 : Ref sig .tc := ⟨.hbm, 73, rfl⟩
abbrev main_v6_2 : Ref sig .tc := ⟨.hbm, 74, rfl⟩
abbrev main_cst_0 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_cst_1 : Ref sig .tc := ⟨.hbm, 82, rfl⟩
abbrev main_v13 : Ref sig .tc := ⟨.hbm, 83, rfl⟩
abbrev main_v14 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v15_0 : Ref sig .tc := ⟨.hbm, 98, rfl⟩
abbrev main_call1_cst_0 : Ref sig .tc := ⟨.hbm, 99, rfl⟩
abbrev main_call1_v13 : Ref sig .tc := ⟨.hbm, 100, rfl⟩
abbrev main_call1_v14 : Ref sig .tc := ⟨.hbm, 101, rfl⟩
abbrev main_call1_cst_1 : Ref sig .tc := ⟨.hbm, 102, rfl⟩
abbrev main_call1_v15 : Ref sig .tc := ⟨.hbm, 103, rfl⟩
abbrev main_call1_v16 : Ref sig .tc := ⟨.hbm, 104, rfl⟩
abbrev main_call1_cst_2 : Ref sig .tc := ⟨.hbm, 105, rfl⟩
abbrev main_call1_v17 : Ref sig .tc := ⟨.hbm, 106, rfl⟩
abbrev main_call1_v18 : Ref sig .tc := ⟨.hbm, 107, rfl⟩
abbrev main_call1_cst_3 : Ref sig .tc := ⟨.hbm, 108, rfl⟩
abbrev main_call1_v19 : Ref sig .tc := ⟨.hbm, 109, rfl⟩
abbrev main_call1_v20 : Ref sig .tc := ⟨.hbm, 110, rfl⟩
abbrev main_call1_v21 : Ref sig .tc := ⟨.hbm, 111, rfl⟩
abbrev main_v15_1 : Ref sig .tc := ⟨.hbm, 112, rfl⟩
abbrev main_call1_cst_4 : Ref sig .tc := ⟨.hbm, 113, rfl⟩
abbrev main_call1_cst_5 : Ref sig .tc := ⟨.hbm, 114, rfl⟩
abbrev main_call1_v23 : Ref sig .tc := ⟨.hbm, 115, rfl⟩
abbrev main_call1_cst_6 : Ref sig .tc := ⟨.hbm, 116, rfl⟩
abbrev main_call1_cst_7 : Ref sig .tc := ⟨.hbm, 117, rfl⟩
abbrev main_call1_v24 : Ref sig .tc := ⟨.hbm, 118, rfl⟩
abbrev main_call1_cst_8 : Ref sig .tc := ⟨.hbm, 119, rfl⟩
abbrev main_call1_v25 : Ref sig .tc := ⟨.hbm, 120, rfl⟩
abbrev main_call1_v26 : Ref sig .tc := ⟨.hbm, 121, rfl⟩
abbrev main_call1_cst_9 : Ref sig .tc := ⟨.hbm, 122, rfl⟩
abbrev main_call1_v27 : Ref sig .tc := ⟨.hbm, 123, rfl⟩
abbrev main_call1_v28 : Ref sig .tc := ⟨.hbm, 124, rfl⟩
abbrev main_call1_v29 : Ref sig .tc := ⟨.hbm, 125, rfl⟩
abbrev main_call1_v30 : Ref sig .tc := ⟨.hbm, 126, rfl⟩
abbrev main_call1_v31 : Ref sig .tc := ⟨.hbm, 127, rfl⟩
abbrev main_call1_cst_10 : Ref sig .tc := ⟨.hbm, 128, rfl⟩
abbrev main_call1_v32 : Ref sig .tc := ⟨.hbm, 129, rfl⟩
abbrev main_v15_2 : Ref sig .tc := ⟨.hbm, 130, rfl⟩
abbrev main_cst_2 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_v19 : Ref sig .tc := ⟨.hbm, 135, rfl⟩
abbrev main_v20 : Ref sig .tc := ⟨.hbm, 136, rfl⟩
abbrev main_v21 : Ref sig .tc := ⟨.hbm, 137, rfl⟩
abbrev main_v22 : Ref sig .tc := ⟨.hbm, 138, rfl⟩
abbrev main_v23 : Ref sig .tc := ⟨.hbm, 139, rfl⟩
abbrev main_cst_3 : Ref sig .tc := ⟨.hbm, 140, rfl⟩
abbrev main_v24 : Ref sig .tc := ⟨.hbm, 141, rfl⟩
abbrev main_cst_4 : Ref sig .tc := ⟨.hbm, 142, rfl⟩
abbrev main_v25 : Ref sig .tc := ⟨.hbm, 143, rfl⟩
abbrev main_v26 : Ref sig .tc := ⟨.hbm, 144, rfl⟩
abbrev main_cst_5 : Ref sig .tc := ⟨.hbm, 145, rfl⟩
abbrev main_v27 : Ref sig .tc := ⟨.hbm, 146, rfl⟩
abbrev main_v28 : Ref sig .tc := ⟨.hbm, 147, rfl⟩
abbrev main_cst_6 : Ref sig .tc := ⟨.hbm, 148, rfl⟩
abbrev main_v29 : Ref sig .tc := ⟨.hbm, 149, rfl⟩
abbrev main_v30 : Ref sig .tc := ⟨.hbm, 150, rfl⟩
abbrev main_v31 : Ref sig .tc := ⟨.hbm, 151, rfl⟩
abbrev main_cst_7 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_cst_8 : Ref sig .tc := ⟨.hbm, 156, rfl⟩
abbrev main_v35 : Ref sig .tc := ⟨.hbm, 157, rfl⟩
abbrev main_v36 : Ref sig .tc := ⟨.hbm, 158, rfl⟩
abbrev main_v37 : Ref sig .tc := ⟨.hbm, 159, rfl⟩
abbrev main_cst_9 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_call4_v0 : Ref sig .tc := ⟨.hbm, 164, rfl⟩
abbrev main_call4_cst : Ref sig .tc := ⟨.hbm, 165, rfl⟩
abbrev main_call4_v1 : Ref sig .tc := ⟨.hbm, 166, rfl⟩
abbrev main_call4_v2 : Ref sig .tc := ⟨.hbm, 167, rfl⟩
abbrev main_v41 : Ref sig .tc := ⟨.hbm, 168, rfl⟩
abbrev main_cst_10 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev main_cst_11 : Ref sig .tc := ⟨.hbm, 178, rfl⟩
abbrev main_v50 : Ref sig .tc := ⟨.hbm, 179, rfl⟩
abbrev main_v51 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_call5_v5 : Ref sig .tc := ⟨.hbm, 187, rfl⟩
abbrev main_call5_v6 : Ref sig .tc := ⟨.hbm, 188, rfl⟩
abbrev main_call5_v7 : Ref sig .tc := ⟨.hbm, 189, rfl⟩
abbrev main_call5_v8 : Ref sig .tc := ⟨.hbm, 190, rfl⟩
abbrev main_call5_v9 : Ref sig .tc := ⟨.hbm, 191, rfl⟩
abbrev main_call5_v10 : Ref sig .tc := ⟨.hbm, 192, rfl⟩
abbrev main_call5_v11 : Ref sig .tc := ⟨.hbm, 193, rfl⟩
abbrev main_v52 : Ref sig .tc := ⟨.hbm, 194, rfl⟩
abbrev main_cst_12 : Ref sig .tc := ⟨.hbm, 195, rfl⟩
abbrev main_v53 : Ref sig .tc := ⟨.hbm, 196, rfl⟩
abbrev main_v54 : Ref sig .tc := ⟨.hbm, 197, rfl⟩
abbrev main_v55 : Ref sig .tc := ⟨.hbm, 198, rfl⟩
abbrev main_v56 : Ref sig .tc := ⟨.hbm, 199, rfl⟩
abbrev main_v57 : Ref sig .tc := ⟨.hbm, 200, rfl⟩
abbrev main_v58 : Ref sig .tc := ⟨.hbm, 201, rfl⟩
abbrev main_cst_13 : Ref sig .tc := ⟨.hbm, 202, rfl⟩
abbrev main_v59 : Ref sig .tc := ⟨.hbm, 203, rfl⟩
abbrev main_v60 : Ref sig .tc := ⟨.hbm, 204, rfl⟩
abbrev main_call6_cst : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_v6 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_v61 : Ref sig .tc := ⟨.hbm, 218, rfl⟩
abbrev main_cst_14 : Ref sig .tc := ⟨.hbm, 219, rfl⟩
abbrev main_v62 : Ref sig .tc := ⟨.hbm, 220, rfl⟩
abbrev main_v63 : Ref sig .tc := ⟨.hbm, 221, rfl⟩
abbrev main_v64 : Ref sig .tc := ⟨.hbm, 222, rfl⟩
abbrev main_v65 : Ref sig .tc := ⟨.hbm, 223, rfl⟩
abbrev main_v66 : Ref sig .tc := ⟨.hbm, 224, rfl⟩
abbrev main_v67 : Ref sig .tc := ⟨.hbm, 225, rfl⟩
abbrev main_v68 : Ref sig .tc := ⟨.hbm, 226, rfl⟩
abbrev main_call7_v0 : Ref sig .tc := ⟨.hbm, 227, rfl⟩
abbrev main_call7_cst : Ref sig .tc := ⟨.hbm, 228, rfl⟩
abbrev main_call7_v1 : Ref sig .tc := ⟨.hbm, 229, rfl⟩
abbrev main_v69 : Ref sig .tc := ⟨.hbm, 230, rfl⟩
abbrev main_cst_15 : Ref sig .tc := ⟨.hbm, 231, rfl⟩
abbrev main_v70 : Ref sig .tc := ⟨.hbm, 232, rfl⟩
abbrev main_v71 : Ref sig .tc := ⟨.hbm, 233, rfl⟩
abbrev main_v72 : Ref sig .tc := ⟨.hbm, 234, rfl⟩
abbrev main_v73 : Ref sig .tc := ⟨.hbm, 235, rfl⟩
abbrev main_v74 : Ref sig .tc := ⟨.hbm, 236, rfl⟩
abbrev main_v75 : Ref sig .tc := ⟨.hbm, 237, rfl⟩
abbrev main_call8_v0 : Ref sig .tc := ⟨.hbm, 238, rfl⟩
abbrev main_call8_cst : Ref sig .tc := ⟨.hbm, 239, rfl⟩
abbrev main_call8_v1 : Ref sig .tc := ⟨.hbm, 240, rfl⟩
abbrev main_call8_v2 : Ref sig .tc := ⟨.hbm, 241, rfl⟩
abbrev main_v76 : Ref sig .tc := ⟨.hbm, 242, rfl⟩
abbrev main_cst_16 : Ref sig .tc := ⟨.hbm, 243, rfl⟩
abbrev main_v77 : Ref sig .tc := ⟨.hbm, 244, rfl⟩
abbrev main_v78 : Ref sig .tc := ⟨.hbm, 245, rfl⟩
abbrev main_v79 : Ref sig .tc := ⟨.hbm, 246, rfl⟩
abbrev main_v80 : Ref sig .tc := ⟨.hbm, 247, rfl⟩
abbrev main_v81 : Ref sig .tc := ⟨.hbm, 248, rfl⟩
abbrev main_v82 : Ref sig .tc := ⟨.hbm, 249, rfl⟩
abbrev main_v83 : Ref sig .tc := ⟨.hbm, 250, rfl⟩
abbrev main_call9_v0 : Ref sig .tc := ⟨.hbm, 251, rfl⟩
abbrev main_call9_cst : Ref sig .tc := ⟨.hbm, 252, rfl⟩
abbrev main_call9_v1 : Ref sig .tc := ⟨.hbm, 253, rfl⟩
abbrev main_call9_v2 : Ref sig .tc := ⟨.hbm, 254, rfl⟩
abbrev main_v84 : Ref sig .tc := ⟨.hbm, 255, rfl⟩
abbrev main_cst_17 : Ref sig .tc := ⟨.hbm, 256, rfl⟩
abbrev main_v85 : Ref sig .tc := ⟨.hbm, 257, rfl⟩
abbrev main_v86 : Ref sig .tc := ⟨.hbm, 258, rfl⟩
abbrev main_v87 : Ref sig .tc := ⟨.hbm, 259, rfl⟩
abbrev main_v88 : Ref sig .tc := ⟨.hbm, 260, rfl⟩
abbrev main_v89 : Ref sig .tc := ⟨.hbm, 261, rfl⟩
abbrev main_cst_18 : Ref sig .tc := ⟨.hbm, 262, rfl⟩
abbrev main_v90 : Ref sig .tc := ⟨.hbm, 263, rfl⟩
abbrev main_cst_19 : Ref sig .tc := ⟨.hbm, 264, rfl⟩
abbrev main_cst_20 : Ref sig .tc := ⟨.hbm, 265, rfl⟩
abbrev main_call10_v0 : Ref sig .tc := ⟨.hbm, 266, rfl⟩
abbrev main_call10_v1 : Ref sig .tc := ⟨.hbm, 267, rfl⟩
abbrev main_call10_v2 : Ref sig .tc := ⟨.hbm, 268, rfl⟩
abbrev main_call10_v3 : Ref sig .tc := ⟨.hbm, 269, rfl⟩
abbrev main_call10_v4 : Ref sig .tc := ⟨.hbm, 270, rfl⟩
abbrev main_v91 : Ref sig .tc := ⟨.hbm, 271, rfl⟩
abbrev main_v92 : Ref sig .tc := ⟨.hbm, 272, rfl⟩
abbrev main_cst_21 : Ref sig .tc := ⟨.hbm, 273, rfl⟩
abbrev main_v93 : Ref sig .tc := ⟨.hbm, 274, rfl⟩
abbrev main_cst_22 : Ref sig .tc := ⟨.hbm, 275, rfl⟩
abbrev main_cst_23 : Ref sig .tc := ⟨.hbm, 276, rfl⟩
abbrev main_call11_v0 : Ref sig .tc := ⟨.hbm, 277, rfl⟩
abbrev main_call11_v1 : Ref sig .tc := ⟨.hbm, 278, rfl⟩
abbrev main_call11_v2 : Ref sig .tc := ⟨.hbm, 279, rfl⟩
abbrev main_call11_v3 : Ref sig .tc := ⟨.hbm, 280, rfl⟩
abbrev main_call11_v4 : Ref sig .tc := ⟨.hbm, 281, rfl⟩
abbrev main_v94 : Ref sig .tc := ⟨.hbm, 282, rfl⟩
abbrev main_v95 : Ref sig .tc := ⟨.hbm, 283, rfl⟩
abbrev main_cst_24 : Ref sig .tc := ⟨.hbm, 284, rfl⟩
abbrev main_v96 : Ref sig .tc := ⟨.hbm, 285, rfl⟩
abbrev main_v97 : Ref sig .tc := ⟨.hbm, 286, rfl⟩
abbrev main_cst_25 : Ref sig .tc := ⟨.hbm, 287, rfl⟩
abbrev main_v98 : Ref sig .tc := ⟨.hbm, 288, rfl⟩
abbrev main_v99 : Ref sig .tc := ⟨.hbm, 289, rfl⟩
abbrev main_v100 : Ref sig .tc := ⟨.hbm, 290, rfl⟩
abbrev main_cst_26 : Ref sig .tc := ⟨.hbm, 291, rfl⟩
abbrev main_v101 : Ref sig .tc := ⟨.hbm, 292, rfl⟩
abbrev main_v102 : Ref sig .tc := ⟨.hbm, 293, rfl⟩
abbrev main_cst_27 : Ref sig .tc := ⟨.hbm, 294, rfl⟩
abbrev main_v103 : Ref sig .tc := ⟨.hbm, 295, rfl⟩
abbrev main_v104 : Ref sig .tc := ⟨.hbm, 296, rfl⟩
abbrev main_v105 : Ref sig .tc := ⟨.hbm, 297, rfl⟩
abbrev main_cst_28 : Ref sig .tc := ⟨.hbm, 298, rfl⟩
abbrev main_v106 : Ref sig .tc := ⟨.hbm, 299, rfl⟩
abbrev main_v107 : Ref sig .tc := ⟨.hbm, 300, rfl⟩
abbrev main_v108 : Ref sig .tc := ⟨.hbm, 301, rfl⟩
abbrev main_cst_29 : Ref sig .tc := ⟨.hbm, 302, rfl⟩
abbrev main_v109 : Ref sig .tc := ⟨.hbm, 303, rfl⟩
abbrev main_v110 : Ref sig .tc := ⟨.hbm, 304, rfl⟩
abbrev main_v111 : Ref sig .tc := ⟨.hbm, 305, rfl⟩
abbrev main_cst_30 : Ref sig .tc := ⟨.hbm, 306, rfl⟩
abbrev main_v112 : Ref sig .tc := ⟨.hbm, 307, rfl⟩
abbrev main_v113 : Ref sig .tc := ⟨.hbm, 308, rfl⟩
abbrev main_v114 : Ref sig .tc := ⟨.hbm, 309, rfl⟩
abbrev main_cst_31 : Ref sig .tc := ⟨.hbm, 310, rfl⟩
abbrev main_v115 : Ref sig .tc := ⟨.hbm, 311, rfl⟩
abbrev main_v116 : Ref sig .tc := ⟨.hbm, 312, rfl⟩
abbrev main_v117 : Ref sig .tc := ⟨.hbm, 313, rfl⟩
abbrev main_cst_32 : Ref sig .tc := ⟨.hbm, 314, rfl⟩
abbrev main_v118 : Ref sig .tc := ⟨.hbm, 315, rfl⟩
abbrev main_v119 : Ref sig .tc := ⟨.hbm, 316, rfl⟩
abbrev main_v120 : Ref sig .tc := ⟨.hbm, 317, rfl⟩
abbrev main_cst_33 : Ref sig .tc := ⟨.hbm, 318, rfl⟩
abbrev main_v121 : Ref sig .tc := ⟨.hbm, 319, rfl⟩
abbrev main_v122 : Ref sig .tc := ⟨.hbm, 320, rfl⟩
abbrev main_cst_34 : Ref sig .tc := ⟨.hbm, 321, rfl⟩
abbrev main_v123 : Ref sig .tc := ⟨.hbm, 322, rfl⟩
abbrev main_v124 : Ref sig .tc := ⟨.hbm, 323, rfl⟩
abbrev main_v125 : Ref sig .tc := ⟨.hbm, 324, rfl⟩
abbrev main_v126 : Ref sig .tc := ⟨.hbm, 325, rfl⟩
abbrev main_cst_35 : Ref sig .tc := ⟨.hbm, 326, rfl⟩
abbrev main_v127 : Ref sig .tc := ⟨.hbm, 327, rfl⟩
abbrev main_v128 : Ref sig .tc := ⟨.hbm, 328, rfl⟩
abbrev main_v129 : Ref sig .tc := ⟨.hbm, 329, rfl⟩
abbrev main_v130 : Ref sig .tc := ⟨.hbm, 330, rfl⟩
abbrev main_cst_36 : Ref sig .tc := ⟨.hbm, 331, rfl⟩
abbrev main_v131 : Ref sig .tc := ⟨.hbm, 332, rfl⟩
abbrev main_v132 : Ref sig .tc := ⟨.hbm, 333, rfl⟩
abbrev main_cst_37 : Ref sig .tc := ⟨.hbm, 334, rfl⟩
abbrev main_v133 : Ref sig .tc := ⟨.hbm, 335, rfl⟩
abbrev main_v134 : Ref sig .tc := ⟨.hbm, 336, rfl⟩
abbrev main_v135 : Ref sig .tc := ⟨.hbm, 337, rfl⟩
abbrev main_cst_38 : Ref sig .tc := ⟨.hbm, 338, rfl⟩
abbrev main_v136 : Ref sig .tc := ⟨.hbm, 339, rfl⟩
abbrev main_v137 : Ref sig .tc := ⟨.hbm, 340, rfl⟩
abbrev main_cst_39 : Ref sig .tc := ⟨.hbm, 341, rfl⟩
abbrev main_v138 : Ref sig .tc := ⟨.hbm, 342, rfl⟩
abbrev main_v139 : Ref sig .tc := ⟨.hbm, 343, rfl⟩
abbrev main_v140 : Ref sig .tc := ⟨.hbm, 344, rfl⟩
abbrev main_cst_40 : Ref sig .tc := ⟨.hbm, 345, rfl⟩
abbrev main_v141 : Ref sig .tc := ⟨.hbm, 346, rfl⟩
abbrev main_v142 : Ref sig .tc := ⟨.hbm, 347, rfl⟩
abbrev main_v143 : Ref sig .tc := ⟨.hbm, 348, rfl⟩
abbrev main_cst_41 : Ref sig .tc := ⟨.hbm, 349, rfl⟩
abbrev main_v144 : Ref sig .tc := ⟨.hbm, 350, rfl⟩
abbrev main_v145 : Ref sig .tc := ⟨.hbm, 351, rfl⟩
abbrev main_v146 : Ref sig .tc := ⟨.hbm, 352, rfl⟩
abbrev main_cst_42 : Ref sig .tc := ⟨.hbm, 353, rfl⟩
abbrev main_v147 : Ref sig .tc := ⟨.hbm, 354, rfl⟩
abbrev main_v148 : Ref sig .tc := ⟨.hbm, 355, rfl⟩
abbrev main_v149 : Ref sig .tc := ⟨.hbm, 356, rfl⟩
abbrev main_cst_43 : Ref sig .tc := ⟨.hbm, 357, rfl⟩
abbrev main_v150 : Ref sig .tc := ⟨.hbm, 358, rfl⟩
abbrev main_v151 : Ref sig .tc := ⟨.hbm, 359, rfl⟩
abbrev main_v152 : Ref sig .tc := ⟨.hbm, 360, rfl⟩
abbrev main_cst_44 : Ref sig .tc := ⟨.hbm, 361, rfl⟩
abbrev main_v153 : Ref sig .tc := ⟨.hbm, 362, rfl⟩
abbrev main_v154 : Ref sig .tc := ⟨.hbm, 363, rfl⟩
abbrev main_v155 : Ref sig .tc := ⟨.hbm, 364, rfl⟩
abbrev main_cst_45 : Ref sig .tc := ⟨.hbm, 365, rfl⟩
abbrev main_v156 : Ref sig .tc := ⟨.hbm, 366, rfl⟩
abbrev main_v157 : Ref sig .tc := ⟨.hbm, 367, rfl⟩
abbrev main_cst_46 : Ref sig .tc := ⟨.hbm, 368, rfl⟩
abbrev main_v158 : Ref sig .tc := ⟨.hbm, 369, rfl⟩
abbrev main_v159 : Ref sig .tc := ⟨.hbm, 370, rfl⟩
abbrev main_v160 : Ref sig .tc := ⟨.hbm, 371, rfl⟩
abbrev main_v161 : Ref sig .tc := ⟨.hbm, 372, rfl⟩
abbrev main_cst_47 : Ref sig .tc := ⟨.hbm, 373, rfl⟩
abbrev main_v162 : Ref sig .tc := ⟨.hbm, 374, rfl⟩
abbrev main_v163 : Ref sig .tc := ⟨.hbm, 375, rfl⟩
abbrev main_v164 : Ref sig .tc := ⟨.hbm, 376, rfl⟩
abbrev main_v165 : Ref sig .tc := ⟨.hbm, 377, rfl⟩
abbrev main_v166 : Ref sig .tc := ⟨.hbm, 378, rfl⟩
abbrev main_v167 : Ref sig .tc := ⟨.hbm, 379, rfl⟩
abbrev main_cst_48 : Ref sig .tc := ⟨.hbm, 380, rfl⟩
abbrev main_v168 : Ref sig .tc := ⟨.hbm, 381, rfl⟩
abbrev main_v169 : Ref sig .tc := ⟨.hbm, 382, rfl⟩
abbrev main_v170 : Ref sig .tc := ⟨.hbm, 383, rfl⟩
abbrev main_v171 : Ref sig .tc := ⟨.hbm, 384, rfl⟩
abbrev main_v172 : Ref sig .tc := ⟨.hbm, 385, rfl⟩
abbrev main_v173 : Ref sig .tc := ⟨.hbm, 386, rfl⟩
abbrev main_v174 : Ref sig .tc := ⟨.hbm, 387, rfl⟩
abbrev main_call14_cst : Ref sig .tc := ⟨.hbm, 388, rfl⟩
abbrev main_call14_v0 : Ref sig .tc := ⟨.hbm, 389, rfl⟩
abbrev main_v175 : Ref sig .tc := ⟨.hbm, 390, rfl⟩
abbrev main_v176 : Ref sig .tc := ⟨.hbm, 391, rfl⟩
abbrev main_v177 : Ref sig .tc := ⟨.hbm, 392, rfl⟩
abbrev main_v178 : Ref sig .tc := ⟨.hbm, 393, rfl⟩
abbrev main_v179 : Ref sig .tc := ⟨.hbm, 394, rfl⟩
abbrev main_v180 : Ref sig .tc := ⟨.hbm, 395, rfl⟩
abbrev main_v181 : Ref sig .tc := ⟨.hbm, 396, rfl⟩
abbrev main_cst_49 : Ref sig .tc := ⟨.hbm, 397, rfl⟩
abbrev main_v182 : Ref sig .tc := ⟨.hbm, 398, rfl⟩
abbrev main_v183 : Ref sig .tc := ⟨.hbm, 399, rfl⟩
abbrev main_cst_50 : Ref sig .tc := ⟨.hbm, 400, rfl⟩
abbrev main_v184 : Ref sig .tc := ⟨.hbm, 401, rfl⟩
abbrev main_v185 : Ref sig .tc := ⟨.hbm, 402, rfl⟩
abbrev main_v186 : Ref sig .tc := ⟨.hbm, 403, rfl⟩
abbrev main_v187 : Ref sig .tc := ⟨.hbm, 404, rfl⟩
abbrev main_v188 : Ref sig .tc := ⟨.hbm, 405, rfl⟩
abbrev main_v189 : Ref sig .tc := ⟨.hbm, 406, rfl⟩
abbrev main_call15_cst : Ref sig .tc := ⟨.hbm, 407, rfl⟩
abbrev main_call15_v0 : Ref sig .tc := ⟨.hbm, 408, rfl⟩
abbrev main_v190 : Ref sig .tc := ⟨.hbm, 409, rfl⟩
abbrev main_v191 : Ref sig .tc := ⟨.hbm, 410, rfl⟩
abbrev main_v192 : Ref sig .tc := ⟨.hbm, 411, rfl⟩
abbrev main_v193 : Ref sig .tc := ⟨.hbm, 412, rfl⟩
abbrev main_v194 : Ref sig .tc := ⟨.hbm, 413, rfl⟩
abbrev main_v195 : Ref sig .tc := ⟨.hbm, 414, rfl⟩
abbrev main_v196 : Ref sig .tc := ⟨.hbm, 415, rfl⟩
abbrev main_v197 : Ref sig .tc := ⟨.hbm, 416, rfl⟩
abbrev main_v198 : Ref sig .tc := ⟨.hbm, 417, rfl⟩
abbrev main_call16_cst : Ref sig .tc := ⟨.hbm, 418, rfl⟩
abbrev main_call16_v0 : Ref sig .tc := ⟨.hbm, 419, rfl⟩
abbrev main_v199 : Ref sig .tc := ⟨.hbm, 420, rfl⟩
abbrev main_v200 : Ref sig .tc := ⟨.hbm, 421, rfl⟩
abbrev main_v201 : Ref sig .tc := ⟨.hbm, 422, rfl⟩
abbrev main_v202 : Ref sig .tc := ⟨.hbm, 423, rfl⟩
abbrev main_v203 : Ref sig .tc := ⟨.hbm, 424, rfl⟩
abbrev main_call17_cst : Ref sig .tc := ⟨.hbm, 425, rfl⟩
abbrev main_call17_v0 : Ref sig .tc := ⟨.hbm, 426, rfl⟩
abbrev main_v204 : Ref sig .tc := ⟨.hbm, 427, rfl⟩
abbrev main_v205 : Ref sig .tc := ⟨.hbm, 428, rfl⟩
abbrev main_v206 : Ref sig .tc := ⟨.hbm, 429, rfl⟩
abbrev main_v207 : Ref sig .tc := ⟨.hbm, 430, rfl⟩
abbrev main_v208 : Ref sig .tc := ⟨.hbm, 431, rfl⟩
abbrev main_v209 : Ref sig .tc := ⟨.hbm, 432, rfl⟩
abbrev main_v210 : Ref sig .tc := ⟨.hbm, 433, rfl⟩
abbrev main_cst_51 : Ref sig .tc := ⟨.hbm, 434, rfl⟩
abbrev main_v211 : Ref sig .tc := ⟨.hbm, 435, rfl⟩
abbrev main_v212 : Ref sig .tc := ⟨.hbm, 436, rfl⟩
abbrev main_call18_cst : Ref sig .tc := ⟨.hbm, 437, rfl⟩
abbrev main_call18_v0 : Ref sig .tc := ⟨.hbm, 438, rfl⟩
abbrev main_v213 : Ref sig .tc := ⟨.hbm, 439, rfl⟩
abbrev main_v214 : Ref sig .tc := ⟨.hbm, 440, rfl⟩
abbrev main_v215 : Ref sig .tc := ⟨.hbm, 441, rfl⟩
abbrev main_v216 : Ref sig .tc := ⟨.hbm, 442, rfl⟩
abbrev main_v217 : Ref sig .tc := ⟨.hbm, 443, rfl⟩
abbrev main_v218 : Ref sig .tc := ⟨.hbm, 444, rfl⟩
abbrev main_cst_52 : Ref sig .tc := ⟨.hbm, 445, rfl⟩
abbrev main_cst_53 : Ref sig .tc := ⟨.hbm, 446, rfl⟩
abbrev main_call19_v0 : Ref sig .tc := ⟨.hbm, 447, rfl⟩
abbrev main_call19_v1 : Ref sig .tc := ⟨.hbm, 448, rfl⟩
abbrev main_call19_v2 : Ref sig .tc := ⟨.hbm, 449, rfl⟩
abbrev main_call19_v3 : Ref sig .tc := ⟨.hbm, 450, rfl⟩
abbrev main_call19_v4 : Ref sig .tc := ⟨.hbm, 451, rfl⟩
abbrev main_v219 : Ref sig .tc := ⟨.hbm, 452, rfl⟩

abbrev nD : Nat := 1
abbrev τ : Topo := Topo.v7x

variable {F : FTy → Type} [FloatOps F]
-- ==== Proof.BodyKernelIdeal.lean ====
/- The frame of `KernelIdeal`: what each window's staging buffer holds around the body, the body's triple, the run and the
   claim that the argument arrays end unchanged with every counter at zero. It follows the generated frame module of the
   same program; the body has twenty-four windows, and the obligation between the two ways of writing the list of windows
   needs a larger budget than the generated text gives it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
/-- No host operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
/-- No host operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
/-- No host operation after the region writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
/-- No host operation after the region writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
/-- No host operation after the region writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
/-- No host operation after the region writes `main_arg21`: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 12).trans (((dats 0 c).arrAt_in 12 rfl _).trans ((hA c 12).trans (V_main_arg4 m c))),
      (((h c).2 main_arg5 (Pipeline.mem_restRefs_of main_arg5 (by decide) (by decide))).trans (W_main_arg5 m dats c)),
      ((h c).1 11).trans (((dats 0 c).arrAt_in 11 rfl _).trans ((hA c 11).trans (V_main_arg6 m c))),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c)),
      (((h c).2 main_arg21 (Pipeline.mem_restRefs_of main_arg21 (by decide) (by decide))).trans (W_main_arg21 m dats c))⟩) h

/-! ## The body's accesses -/

abbrev r0_0 : Rect S3x16384 := Rect.unit (s := S3x16384) ![0, 0] S3x16384.size inb_S3x16384_S3x16384_0_0
abbrev r0_1 : Rect S3x1 := Rect.unit (s := S3x1) ![0, 0] S3x1.size inb_S3x1_S3x1_0_0
abbrev r0_2 : Rect S64x3 := Rect.unit (s := S64x3) ![0, 0] S64x3.size inb_S64x3_S64x3_0_0
abbrev r0_3 : Rect S64x1 := Rect.unit (s := S64x1) ![0, 0] S64x1.size inb_S64x1_S64x1_0_0
abbrev r0_4 : Rect S64x64 := Rect.unit (s := S64x64) ![0, 0] S64x64.size inb_S64x64_S64x64_0_0
abbrev r0_5 : Rect S32x64 := Rect.unit (s := S32x64) ![0, 0] S32x64.size inb_S32x64_S32x64_0_0
abbrev r0_6 : Rect S32x1 := Rect.unit (s := S32x1) ![0, 0] S32x1.size inb_S32x1_S32x1_0_0
abbrev r0_7 : Rect S3x64 := Rect.unit (s := S3x64) ![0, 0] S3x64.size inb_S3x64_S3x64_0_0
abbrev r0_8 : Rect S128x3 := Rect.unit (s := S128x3) ![0, 0] S128x3.size inb_S128x3_S128x3_0_0
abbrev r0_9 : Rect S128x32 := Rect.unit (s := S128x32) ![0, 0] S128x32.size inb_S128x32_S128x32_0_0
abbrev r0_10 : Rect S128x1 := Rect.unit (s := S128x1) ![0, 0] S128x1.size inb_S128x1_S128x1_0_0
abbrev r0_11 : Rect S17x128 := Rect.unit (s := S17x128) ![0, 0] S17x128.size inb_S17x128_S17x128_0_0
abbrev r0_12 : Rect S17x1 := Rect.unit (s := S17x1) ![0, 0] S17x1.size inb_S17x1_S17x1_0_0
abbrev r0_13 : Rect S64x2 := Rect.unit (s := S64x2) ![0, 0] S64x2.size inb_S64x2_S64x2_0_0
abbrev r0_14 : Rect S27x64 := Rect.unit (s := S27x64) ![0, 0] S27x64.size inb_S27x64_S27x64_0_0
abbrev r0_15 : Rect S27x1 := Rect.unit (s := S27x1) ![0, 0] S27x1.size inb_S27x1_S27x1_0_0
abbrev r0_16 : Rect S3x27 := Rect.unit (s := S3x27) ![0, 0] S3x27.size inb_S3x27_S3x27_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out; the comment after each is the printed function's
    name for the value (a count appended where that name is bound again). -/

def k0_pay18 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S3x16384 .f32 :=
  k0_pay1 (View.ld x0 r0_0) -- `v1`
def k0_pay19 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S3x1 .f32 :=
  k0_pay2 (View.ld x1 r0_1) -- `v3`
def k0_pay20 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S3x1 .f32 :=
  k0_pay4 (View.ld x3 r0_1) -- `v7`
def k0_pay21 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S64x16384 .f32 :=
  k0_pay6 (View.ld x0 r0_0) (View.ld x4 r0_2) (View.ld x5 r0_3) (View.ld x6 r0_4) (View.ld x7 r0_3) -- `v35`
def k0_pay22 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S32x16384 .f32 :=
  k0_pay7 (k0_pay21 x0 x1 x2 x3 x4 x5 x6 x7 x8 x9 x10 x11 x12 x13 x14 x15 x16 x17 x18 x19 x20 x21 x22) (View.ld x8 r0_5) (View.ld x9 r0_6) -- `v52`
def k0_pay23 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S3x16384 .f32 :=
  k0_pay8 (k0_pay5 (View.ld x0 r0_0) (View.ld x4 r0_2) (View.ld x5 r0_3)) (k0_pay21 x0 x1 x2 x3 x4 x5 x6 x7 x8 x9 x10 x11 x12 x13 x14 x15 x16 x17 x18 x19 x20 x21 x22) (View.ld x10 r0_3) (View.ld x11 r0_4) (View.ld x12 r0_7) -- `v71`
def k0_pay24 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S3x16384 .f32 :=
  k0_pay9 (k0_pay18 x0 x1 x2 x3 x4 x5 x6 x7 x8 x9 x10 x11 x12 x13 x14 x15 x16 x17 x18 x19 x20 x21 x22) (k0_pay20 x0 x1 x2 x3 x4 x5 x6 x7 x8 x9 x10 x11 x12 x13 x14 x15 x16 x17 x18 x19 x20 x21 x22) -- `v73`
def k0_pay25 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : FVec F S1x16384 .f32 :=
  k0_pay10 (k0_pay18 x0 x1 x2 x3 x4 x5 x6 x7 x8 x9 x10 x11 x12 x13 x14 x15 x16 x17 x18 x19 x20 x21 x22) (k0_pay20 x0 x1 x2 x3 x4 x5 x6 x7 x8 x9 x10 x11 x12 x13 x14 x15 x16 x17 x18 x19 x20 x21 x22) -- `v76`

/-- Window 23's staging buffer after the body, from the input windows' blocks: its 1 store as pieces, LAST
    FIRST (Lib/Pipeline/FrameBody.lean `View.canon`; the payloads are the skeleton's and the values stated above). -/
def out0_23 (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) : Vec F S3x16384 .f32 :=
  View.canon [⟨r0_0, k0_pay17 (k0_pay19 x0 x1 x2 x3 x4 x5 x6 x7 x8 x9 x10 x11 x12 x13 x14 x15 x16 x17 x18 x19 x20 x21 x22) (k0_pay3 (View.ld x2 r0_1)) (k0_pay23 x0 x1 x2 x3 x4 x5 x6 x7 x8 x9 x10 x11 x12 x13 x14 x15 x16 x17 x18 x19 x20 x21 x22) (k0_pay14 (k0_pay11 (k0_pay19 x0 x1 x2 x3 x4 x5 x6 x7 x8 x9 x10 x11 x12 x13 x14 x15 x16 x17 x18 x19 x20 x21 x22) (k0_pay23 x0 x1 x2 x3 x4 x5 x6 x7 x8 x9 x10 x11 x12 x13 x14 x15 x16 x17 x18 x19 x20 x21 x22) (k0_pay24 x0 x1 x2 x3 x4 x5 x6 x7 x8 x9 x10 x11 x12 x13 x14 x15 x16 x17 x18 x19 x20 x21 x22) (k0_pay25 x0 x1 x2 x3 x4 x5 x6 x7 x8 x9 x10 x11 x12 x13 x14 x15 x16 x17 x18 x19 x20 x21 x22)) (k0_pay12 (k0_pay19 x0 x1 x2 x3 x4 x5 x6 x7 x8 x9 x10 x11 x12 x13 x14 x15 x16 x17 x18 x19 x20 x21 x22) (k0_pay23 x0 x1 x2 x3 x4 x5 x6 x7 x8 x9 x10 x11 x12 x13 x14 x15 x16 x17 x18 x19 x20 x21 x22) (k0_pay24 x0 x1 x2 x3 x4 x5 x6 x7 x8 x9 x10 x11 x12 x13 x14 x15 x16 x17 x18 x19 x20 x21 x22) (k0_pay25 x0 x1 x2 x3 x4 x5 x6 x7 x8 x9 x10 x11 x12 x13 x14 x15 x16 x17 x18 x19 x20 x21 x22)) (k0_pay13 (k0_pay19 x0 x1 x2 x3 x4 x5 x6 x7 x8 x9 x10 x11 x12 x13 x14 x15 x16 x17 x18 x19 x20 x21 x22) (k0_pay23 x0 x1 x2 x3 x4 x5 x6 x7 x8 x9 x10 x11 x12 x13 x14 x15 x16 x17 x18 x19 x20 x21 x22) (k0_pay24 x0 x1 x2 x3 x4 x5 x6 x7 x8 x9 x10 x11 x12 x13 x14 x15 x16 x17 x18 x19 x20 x21 x22) (k0_pay25 x0 x1 x2 x3 x4 x5 x6 x7 x8 x9 x10 x11 x12 x13 x14 x15 x16 x17 x18 x19 x20 x21 x22)) (Scalar.ofBits .f32 0x3DB63A9E#32)) (k0_pay15 (k0_pay18 x0 x1 x2 x3 x4 x5 x6 x7 x8 x9 x10 x11 x12 x13 x14 x15 x16 x17 x18 x19 x20 x21 x22) (k0_pay22 x0 x1 x2 x3 x4 x5 x6 x7 x8 x9 x10 x11 x12 x13 x14 x15 x16 x17 x18 x19 x20 x21 x22) (View.ld x13 r0_8) (View.ld x14 r0_9) (View.ld x15 r0_10) (View.ld x16 r0_11) (View.ld x17 r0_12)) (k0_pay16 (k0_pay18 x0 x1 x2 x3 x4 x5 x6 x7 x8 x9 x10 x11 x12 x13 x14 x15 x16 x17 x18 x19 x20 x21 x22) (k0_pay22 x0 x1 x2 x3 x4 x5 x6 x7 x8 x9 x10 x11 x12 x13 x14 x15 x16 x17 x18 x19 x20 x21 x22) (View.ld x13 r0_8) (View.ld x14 r0_9) (View.ld x15 r0_10) (View.ld x16 r0_11) (View.ld x17 r0_12)) (View.ld x18 r0_13) (View.ld x19 r0_3) (View.ld x20 r0_14) (View.ld x21 r0_15) (View.ld x22 r0_16)⟩]

/-- Its stores tile the buffer (checked by evaluation), so they cover it. -/
theorem cover0_23 (p0 : Vec F S3x16384 .f32) (y : S3x16384.Idx) :
    ∃ pc ∈ ([⟨r0_0, p0⟩] : List (View.Piece (Elt F) S3x16384 .f32)), y ∈ pc.1.set :=
  View.cover_of_tiled [⟨r0_0, p0⟩] S3x16384.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S3x16384 .f32) (harg1 : arg1.IsWhole) (arg2 : Memref sig .tc .vmem S3x1 .f32) (harg2 : arg2.IsWhole) (arg3 : Memref sig .tc .vmem S3x1 .f32) (harg3 : arg3.IsWhole) (arg4 : Memref sig .tc .vmem S3x1 .f32) (harg4 : arg4.IsWhole) (arg5 : Memref sig .tc .vmem S64x3 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S64x1 .f32) (harg8 : arg8.IsWhole) (arg9 : Memref sig .tc .vmem S32x64 .f32) (harg9 : arg9.IsWhole) (arg10 : Memref sig .tc .vmem S32x1 .f32) (harg10 : arg10.IsWhole) (arg11 : Memref sig .tc .vmem S64x1 .f32) (harg11 : arg11.IsWhole) (arg12 : Memref sig .tc .vmem S64x64 .f32) (harg12 : arg12.IsWhole) (arg13 : Memref sig .tc .vmem S3x64 .f32) (harg13 : arg13.IsWhole) (arg14 : Memref sig .tc .vmem S128x3 .f32) (harg14 : arg14.IsWhole) (arg15 : Memref sig .tc .vmem S128x32 .f32) (harg15 : arg15.IsWhole) (arg16 : Memref sig .tc .vmem S128x1 .f32) (harg16 : arg16.IsWhole) (arg17 : Memref sig .tc .vmem S17x128 .f32) (harg17 : arg17.IsWhole) (arg18 : Memref sig .tc .vmem S17x1 .f32) (harg18 : arg18.IsWhole) (arg19 : Memref sig .tc .vmem S64x2 .f32) (harg19 : arg19.IsWhole) (arg20 : Memref sig .tc .vmem S64x1 .f32) (harg20 : arg20.IsWhole) (arg21 : Memref sig .tc .vmem S27x64 .f32) (harg21 : arg21.IsWhole) (arg22 : Memref sig .tc .vmem S27x1 .f32) (harg22 : arg22.IsWhole) (arg23 : Memref sig .tc .vmem S3x27 .f32) (harg23 : arg23.IsWhole) (arg24 : Memref sig .tc .vmem S3x16384 .f32) (harg24 : arg24.IsWhole)
    (x0 : Vec F S3x16384 .f32) (x1 : Vec F S3x1 .f32) (x2 : Vec F S3x1 .f32) (x3 : Vec F S3x1 .f32) (x4 : Vec F S64x3 .f32) (x5 : Vec F S64x1 .f32) (x6 : Vec F S64x64 .f32) (x7 : Vec F S64x1 .f32) (x8 : Vec F S32x64 .f32) (x9 : Vec F S32x1 .f32) (x10 : Vec F S64x1 .f32) (x11 : Vec F S64x64 .f32) (x12 : Vec F S3x64 .f32) (x13 : Vec F S128x3 .f32) (x14 : Vec F S128x32 .f32) (x15 : Vec F S128x1 .f32) (x16 : Vec F S17x128 .f32) (x17 : Vec F S17x1 .f32) (x18 : Vec F S64x2 .f32) (x19 : Vec F S64x1 .f32) (x20 : Vec F S27x64 .f32) (x21 : Vec F S27x1 .f32) (x22 : Vec F S3x27 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22)) -∗ K ⟨⟩))
      ⊢ wp frame (wpE (defs₀ (F := F)) Variants.none c none) E (cc0__core_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__core_kernel_eq_skeleton]; unfold cc0__core_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.KernelIdeal.Gen

end
-- ==== Proof.Model.lean ====
/- The shading network at one sample, over the extended reals: plain functions of the sample's position, the light, the
   camera and the weights. Both programs are read against these. -/
module

public import Idealize.ShloMosaic.Lib.Pointwise

@[expose] public section

noncomputable section

namespace Cert.Shading

open Idealize.ShloMosaic

/-- A float literal's value. -/
abbrev lit (b : BitVec 32) : EReal := Ideal.ofBits .f32 b

/-- The softplus of sharpness 100, of an argument that is already multiplied by 100. -/
def soft (y : EReal) : EReal := (max y 0 + Ideal.log1p (Ideal.exp (-(max y (-y))))) * ((1 / 100 : ℝ) : EReal)

/-- One affine layer: `∑ k, x k * W k i + b i`. -/
def layer {n m : ℕ} (W : Fin n → Fin m → EReal) (b : Fin m → EReal) (x : Fin n → EReal) (i : Fin m) : EReal :=
  (∑ k : Fin n, x k * W k i) + b i

/-- The inner product of two vectors of three. -/
def dot3 (v w : Fin 3 → EReal) : EReal := ∑ a : Fin 3, v a * w a

/-- A vector divided by its length plus 1e-6. -/
def unit3 (v : Fin 3 → EReal) (a : Fin 3) : EReal := Ideal.div (v a) (Ideal.sqrt (dot3 v v) + lit 0x358637BD#32)

/-- A cosine held away from ±1. -/
def clampCos (x : EReal) : EReal := min (lit 0x3F7FFFEF#32) (max (lit 0xBF7FFFEF#32) x)

/-- The polynomial factor of the arc cosine, by Horner's rule. -/
def acosPoly (a : EReal) : EReal :=
  lit 0x3FC90FDA#32 + a * (lit 0xBE5BBFCA#32 + a * (lit 0x3DB63A9E#32 + a * (lit 0xBD4D8392#32 + a * (lit 0x3CFD10F8#32
    + a * (lit 0xBC8BFC66#32 + a * (lit 0x3BDA90C5#32 + a * lit 0xBAA57A2C#32))))))

/-- The arc cosine as the seventh-degree polynomial times a square root, reflected for a negative argument. -/
def acosP (x : EReal) : EReal :=
  if 0 ≤ x then Ideal.sqrt (max (1 - max x (-x)) 0) * acosPoly (max x (-x))
  else lit 0x40490FDB#32 - Ideal.sqrt (max (1 - max x (-x)) 0) * acosPoly (max x (-x))

/-- Everything the two programs take, at one sample. -/
structure Net where
  /-- the sample's position -/
  p : Fin 3 → EReal
  /-- the light's direction, not yet normalized -/
  light : Fin 3 → EReal
  /-- the light's intensity -/
  inten : Fin 3 → EReal
  /-- the camera's position -/
  cam : Fin 3 → EReal
  Wg0 : Fin 3 → Fin 64 → EReal
  bg0 : Fin 64 → EReal
  Wg1 : Fin 64 → Fin 64 → EReal
  bg1 : Fin 64 → EReal
  Wg2 : Fin 64 → Fin 33 → EReal
  bg2 : Fin 33 → EReal
  Wd0 : Fin 35 → Fin 64 → EReal
  bd0 : Fin 64 → EReal
  Wd1 : Fin 64 → Fin 3 → EReal
  bd1 : Fin 3 → EReal
  Wc0 : Fin 35 → Fin 64 → EReal
  bc0 : Fin 64 → EReal
  Wc1 : Fin 64 → Fin 9 → EReal
  bc1 : Fin 9 → EReal
  Ws0 : Fin 2 → Fin 64 → EReal
  bs0 : Fin 64 → EReal
  Ws1 : Fin 64 → Fin 27 → EReal
  bs1 : Fin 27 → EReal

namespace Net

variable (N : Net)

/-- The first geometry layer, times 100. -/
def y0 (i : Fin 64) : EReal := lit 0x42C80000#32 * layer N.Wg0 N.bg0 N.p i
/-- The second geometry layer, times 100. -/
def y1 (i : Fin 64) : EReal := lit 0x42C80000#32 * layer N.Wg1 N.bg1 (fun k => soft (N.y0 k)) i
/-- The geometry features (every output of the third layer but the first). -/
def feat (f : Fin 32) : EReal :=
  layer (fun k f => N.Wg2 k ⟨1 + f.val, by omega⟩) (fun f => N.bg2 ⟨1 + f.val, by omega⟩) (fun k => soft (N.y1 k)) f
/-- The derivative of the third layer's first output by the second layer's. -/
def d1 (j : Fin 64) : EReal := N.Wg2 j ⟨0, by omega⟩ * Ideal.logistic (N.y1 j)
/-- … by the first layer's. -/
def d0 (k : Fin 64) : EReal := (∑ j : Fin 64, N.d1 j * N.Wg1 k j) * Ideal.logistic (N.y0 k)
/-- The gradient by the position. -/
def grad (a : Fin 3) : EReal := ∑ k : Fin 64, N.d0 k * N.Wg0 a k
/-- The normal. -/
def normal : Fin 3 → EReal := unit3 N.grad
/-- The light's direction. -/
def ld : Fin 3 → EReal := unit3 N.light
/-- The view's direction. -/
def view : Fin 3 → EReal := unit3 fun a => N.cam a - N.p a
/-- The half-way vector. -/
def half : Fin 3 → EReal := unit3 fun a => N.ld a + N.view a
/-- The two angles, the half-way vector to the normal and to the view. -/
def theta (t : Fin 2) : EReal :=
  if t.val < 1 then acosP (clampCos (dot3 N.half N.normal)) else acosP (clampCos (dot3 N.half N.view))
/-- A hidden unit of an appearance network: position and features through one layer, and the positive part. -/
def hid (W : Fin 35 → Fin 64 → EReal) (b : Fin 64 → EReal) (j : Fin 64) : EReal :=
  max (((∑ a : Fin 3, N.p a * W ⟨a.val, by omega⟩ j) + ∑ f : Fin 32, N.feat f * W ⟨3 + f.val, by omega⟩ j) + b j) 0
/-- The albedo. -/
def albedo (k : Fin 3) : EReal := Ideal.logistic (layer N.Wd1 N.bd1 (N.hid N.Wd0 N.bd0) k)
/-- The coefficients of the specular basis. -/
def coef (j : Fin 9) : EReal := layer N.Wc1 N.bc1 (N.hid N.Wc0 N.bc0) j
/-- The specular network's hidden layer, of the angles over π. -/
def hs (i : Fin 64) : EReal := max (layer N.Ws0 N.bs0 (fun t => N.theta t * lit 0x3EA2F983#32) i) 0
/-- The specular basis. -/
def basis (r : Fin 27) : EReal := max (layer N.Ws1 N.bs1 N.hs r) 0
/-- The specular reflection of a colour. -/
def spec (k : Fin 3) : EReal := ∑ j : Fin 9, N.basis ⟨j.val * 3 + k.val, by omega⟩ * N.coef j
/-- The shading. -/
def shade : EReal := max (dot3 N.normal N.ld) 0
/-- The rendered colour. -/
def colour (k : Fin 3) : EReal := min 1 (max 0 (N.shade * (N.albedo k + N.spec k) * N.inten k))

/-- The network at sample `n` of the argument arrays. -/
def at_ (x0 : FVec Ideal ⟨2, ![262144, 3]⟩ .f32) (x1 x2 x3 : FVec Ideal ⟨1, ![3]⟩ .f32)
    (x4 : FVec Ideal ⟨2, ![3, 64]⟩ .f32) (x5 : FVec Ideal ⟨1, ![64]⟩ .f32) (x6 : FVec Ideal ⟨2, ![64, 64]⟩ .f32) (x7 : FVec Ideal ⟨1, ![64]⟩ .f32)
    (x8 : FVec Ideal ⟨2, ![64, 33]⟩ .f32) (x9 : FVec Ideal ⟨1, ![33]⟩ .f32)
    (x10 : FVec Ideal ⟨2, ![35, 64]⟩ .f32) (x11 : FVec Ideal ⟨1, ![64]⟩ .f32) (x12 : FVec Ideal ⟨2, ![64, 3]⟩ .f32) (x13 : FVec Ideal ⟨1, ![3]⟩ .f32)
    (x14 : FVec Ideal ⟨2, ![35, 64]⟩ .f32) (x15 : FVec Ideal ⟨1, ![64]⟩ .f32) (x16 : FVec Ideal ⟨2, ![64, 9]⟩ .f32) (x17 : FVec Ideal ⟨1, ![9]⟩ .f32)
    (x18 : FVec Ideal ⟨2, ![2, 64]⟩ .f32) (x19 : FVec Ideal ⟨1, ![64]⟩ .f32) (x20 : FVec Ideal ⟨2, ![64, 27]⟩ .f32) (x21 : FVec Ideal ⟨1, ![27]⟩ .f32)
    (n : Fin 262144) : Net where
  p a := x0 (ix2 n a)
  light a := x1 (ix1 a)
  inten a := x2 (ix1 a)
  cam a := x3 (ix1 a)
  Wg0 a i := x4 (ix2 a i)
  bg0 i := x5 (ix1 i)
  Wg1 k i := x6 (ix2 k i)
  bg1 i := x7 (ix1 i)
  Wg2 k f := x8 (ix2 k f)
  bg2 f := x9 (ix1 f)
  Wd0 a i := x10 (ix2 a i)
  bd0 i := x11 (ix1 i)
  Wd1 k i := x12 (ix2 k i)
  bd1 i := x13 (ix1 i)
  Wc0 a i := x14 (ix2 a i)
  bc0 i := x15 (ix1 i)
  Wc1 k i := x16 (ix2 k i)
  bc1 i := x17 (ix1 i)
  Ws0 t i := x18 (ix2 t i)
  bs0 i := x19 (ix1 i)
  Ws1 k i := x20 (ix2 k i)
  bs1 i := x21 (ix1 i)

end Net

end Cert.Shading

end
-- ==== Proof.Block.lean ====
/- What the kernel's body computes of its blocks, at one column: the shading network's colour, as soon as the blocks hold
   the network's weights in the layouts that the kernel takes them in (transposed, two layers side by side, permuted). -/
module

public import proofs.«01_k».proof.Proof.Gen.KernelIdeal.Skeleton
public import proofs.«01_k».proof.Proof.Model

@[expose] public section

set_option maxRecDepth 16384

noncomputable section

namespace Cert.Shading

open Idealize.ShloMosaic Cert.KernelIdeal Cert.KernelIdeal.Gen

/-- The kernel's factor one hundredth is the number 1/100. -/
theorem hundredth : Named.named (F := Ideal) (φ := .f32) κ "hundredth" 0x3C23D70A#32 = ((1 / 100 : ℝ) : EReal) :=
  IdealRules.named_const.ideal_named_scalar _ _ _ _ rfl

/-- The kernel's softplus. -/
theorem soft_kernel (y : EReal) :
    (max y 0 + Ideal.log1p (Ideal.exp (0 - FloatOps.absf (F := Ideal) (φ := .f32) y))) * Named.named (F := Ideal) (φ := .f32) κ "hundredth" 0x3C23D70A#32
      = soft y := by
  rw [hundredth]
  exact congrArg (fun z => (max y 0 + Ideal.log1p (Ideal.exp z)) * ((1 / 100 : ℝ) : EReal)) (zero_sub _)

/-- The blocks at column `l` hold the network `N`. -/
structure Reads (N : Net) (l : Fin 16384) (x0 : Vec Ideal S3x16384 .f32) (x1 : Vec Ideal S3x1 .f32) (x2 : Vec Ideal S3x1 .f32)
    (x3 : Vec Ideal S3x1 .f32) (x4 : Vec Ideal S64x3 .f32) (x5 : Vec Ideal S64x1 .f32) (x6 : Vec Ideal S64x64 .f32)
    (x7 : Vec Ideal S64x1 .f32) (x8 : Vec Ideal S32x64 .f32) (x9 : Vec Ideal S32x1 .f32) (x10 : Vec Ideal S64x1 .f32)
    (x11 : Vec Ideal S64x64 .f32) (x12 : Vec Ideal S3x64 .f32) (x13 : Vec Ideal S128x3 .f32) (x14 : Vec Ideal S128x32 .f32)
    (x15 : Vec Ideal S128x1 .f32) (x16 : Vec Ideal S17x128 .f32) (x17 : Vec Ideal S17x1 .f32) (x18 : Vec Ideal S64x2 .f32)
    (x19 : Vec Ideal S64x1 .f32) (x20 : Vec Ideal S27x64 .f32) (x21 : Vec Ideal S27x1 .f32) (x22 : Vec Ideal S3x27 .f32) : Prop where
  h0 : ∀ a : Fin 3, x0 (ix2 a l) = N.p a
  h1 : ∀ a : Fin 3, x1 (ix2 a 0) = N.ld a
  h2 : ∀ a : Fin 3, x2 (ix2 a 0) = N.inten a
  h3 : ∀ a : Fin 3, x3 (ix2 a 0) = N.cam a
  h4 : ∀ (i : Fin 64) (a : Fin 3), x4 (ix2 i a) = N.Wg0 a i
  h5 : ∀ i : Fin 64, x5 (ix2 i 0) = N.bg0 i
  h6 : ∀ i k : Fin 64, x6 (ix2 i k) = N.Wg1 k i
  h7 : ∀ i : Fin 64, x7 (ix2 i 0) = N.bg1 i
  h8 : ∀ (f : Fin 32) (k : Fin 64), x8 (ix2 f k) = N.Wg2 k ⟨1 + f.val, by omega⟩
  h9 : ∀ f : Fin 32, x9 (ix2 f 0) = N.bg2 ⟨1 + f.val, by omega⟩
  h10 : ∀ j : Fin 64, x10 (ix2 j 0) = N.Wg2 j ⟨0, by omega⟩
  h11 : ∀ k j : Fin 64, x11 (ix2 k j) = N.Wg1 k j
  h12 : ∀ (a : Fin 3) (k : Fin 64), x12 (ix2 a k) = N.Wg0 a k
  h13d : ∀ (j : Fin 64) (a : Fin 3), x13 (ix2 (⟨j.val, by omega⟩ : Fin 128) a) = N.Wd0 ⟨a.val, by omega⟩ j
  h13c : ∀ (j : Fin 64) (a : Fin 3), x13 (ix2 (⟨64 + j.val, by omega⟩ : Fin 128) a) = N.Wc0 ⟨a.val, by omega⟩ j
  h14d : ∀ (j : Fin 64) (f : Fin 32), x14 (ix2 (⟨j.val, by omega⟩ : Fin 128) f) = N.Wd0 ⟨3 + f.val, by omega⟩ j
  h14c : ∀ (j : Fin 64) (f : Fin 32), x14 (ix2 (⟨64 + j.val, by omega⟩ : Fin 128) f) = N.Wc0 ⟨3 + f.val, by omega⟩ j
  h15d : ∀ j : Fin 64, x15 (ix2 (⟨j.val, by omega⟩ : Fin 128) 0) = N.bd0 j
  h15c : ∀ j : Fin 64, x15 (ix2 (⟨64 + j.val, by omega⟩ : Fin 128) 0) = N.bc0 j
  h16d : ∀ (k : Fin 3) (j : Fin 64), x16 (ix2 (⟨k.val, by omega⟩ : Fin 17) (⟨j.val, by omega⟩ : Fin 128)) = N.Wd1 j k
  h16d' : ∀ (k : Fin 3) (j : Fin 64), x16 (ix2 (⟨k.val, by omega⟩ : Fin 17) (⟨64 + j.val, by omega⟩ : Fin 128)) = 0
  h16c : ∀ (k : Fin 9) (j : Fin 64), x16 (ix2 (⟨8 + k.val, by omega⟩ : Fin 17) (⟨64 + j.val, by omega⟩ : Fin 128)) = N.Wc1 j k
  h16c' : ∀ (k : Fin 9) (j : Fin 64), x16 (ix2 (⟨8 + k.val, by omega⟩ : Fin 17) (⟨j.val, by omega⟩ : Fin 128)) = 0
  h17d : ∀ k : Fin 3, x17 (ix2 (⟨k.val, by omega⟩ : Fin 17) 0) = N.bd1 k
  h17c : ∀ k : Fin 9, x17 (ix2 (⟨8 + k.val, by omega⟩ : Fin 17) 0) = N.bc1 k
  h18 : ∀ (i : Fin 64) (t : Fin 2), x18 (ix2 i t) = lit 0x3EA2F983#32 * N.Ws0 t i
  h19 : ∀ i : Fin 64, x19 (ix2 i 0) = N.bs0 i
  h20 : ∀ (k : Fin 3) (j : Fin 9) (i : Fin 64), x20 (ix2 (⟨9 * k.val + j.val, by omega⟩ : Fin 27) i) = N.Ws1 i ⟨j.val * 3 + k.val, by omega⟩
  h21 : ∀ (k : Fin 3) (j : Fin 9), x21 (ix2 (⟨9 * k.val + j.val, by omega⟩ : Fin 27) 0) = N.bs1 ⟨j.val * 3 + k.val, by omega⟩
  h22 : ∀ (k k' : Fin 3) (j : Fin 9), x22 (ix2 k (⟨9 * k'.val + j.val, by omega⟩ : Fin 27)) = if k = k' then 1 else 0

variable {N : Net} {l : Fin 16384} {x0 : Vec Ideal S3x16384 .f32} {x1 : Vec Ideal S3x1 .f32} {x2 : Vec Ideal S3x1 .f32}
    {x3 : Vec Ideal S3x1 .f32} {x4 : Vec Ideal S64x3 .f32} {x5 : Vec Ideal S64x1 .f32} {x6 : Vec Ideal S64x64 .f32}
    {x7 : Vec Ideal S64x1 .f32} {x8 : Vec Ideal S32x64 .f32} {x9 : Vec Ideal S32x1 .f32} {x10 : Vec Ideal S64x1 .f32}
    {x11 : Vec Ideal S64x64 .f32} {x12 : Vec Ideal S3x64 .f32} {x13 : Vec Ideal S128x3 .f32} {x14 : Vec Ideal S128x32 .f32}
    {x15 : Vec Ideal S128x1 .f32} {x16 : Vec Ideal S17x128 .f32} {x17 : Vec Ideal S17x1 .f32} {x18 : Vec Ideal S64x2 .f32}
    {x19 : Vec Ideal S64x1 .f32} {x20 : Vec Ideal S27x64 .f32} {x21 : Vec Ideal S27x1 .f32} {x22 : Vec Ideal S3x27 .f32}

/-! ## The geometry network -/

/-- A product with a transposed weight matrix, as the affine layer of the untransposed one. -/
theorem layer_of {n m : ℕ} {W : Fin n → Fin m → EReal} {b : Fin m → EReal} {x : Fin n → EReal} {i : Fin m} {w v : Fin n → EReal} {c : EReal}
    (hw : ∀ k, w k = W k i) (hv : ∀ k, v k = x k) (hc : c = b i) : (∑ k, w k * v k) + c = layer W b x i := by
  subst hc; rw [layer]
  exact congrArg (· + b i) (Finset.sum_congr rfl fun k _ => by rw [hw, hv, mul_comm])

theorem pay5_at (h : Reads N l x0 x1 x2 x3 x4 x5 x6 x7 x8 x9 x10 x11 x12 x13 x14 x15 x16 x17 x18 x19 x20 x21 x22) (i : Fin 64) :
    k0_pay5 x0 x4 x5 (ix2 i l) = N.y0 i := by
  pointwise [k0_pay5, k0_pay1]
  rw [layer_of (W := N.Wg0) (b := N.bg0) (x := N.p) (i := i) (fun a => h.h4 i a) (fun a => h.h0 a) (h.h5 i)]
  rfl

theorem pay6_at (h : Reads N l x0 x1 x2 x3 x4 x5 x6 x7 x8 x9 x10 x11 x12 x13 x14 x15 x16 x17 x18 x19 x20 x21 x22) (i : Fin 64) :
    k0_pay6 x0 x4 x5 x6 x7 (ix2 i l) = N.y1 i := by
  pointwise [k0_pay6]
  rw [layer_of (W := N.Wg1) (b := N.bg1) (x := fun k => soft (N.y0 k)) (i := i) (fun k => h.h6 i k)
    (fun k => by rw [soft_kernel, pay5_at h]) (h.h7 i)]
  rfl

theorem pay7_at (h : Reads N l x0 x1 x2 x3 x4 x5 x6 x7 x8 x9 x10 x11 x12 x13 x14 x15 x16 x17 x18 x19 x20 x21 x22) (f : Fin 32) :
    k0_pay7 (k0_pay6 x0 x4 x5 x6 x7) x8 x9 (ix2 f l) = N.feat f := by
  pointwise [k0_pay7]
  exact layer_of (W := fun k (f : Fin 32) => N.Wg2 k ⟨1 + f.val, by omega⟩) (b := fun f : Fin 32 => N.bg2 ⟨1 + f.val, by omega⟩)
    (x := fun k => soft (N.y1 k)) (i := f) (fun k => h.h8 f k) (fun k => by rw [soft_kernel, pay6_at h]) (h.h9 f)

/-- The normal, its length read off the printed sum of squares. -/
theorem unit3_of {v : Fin 3 → EReal} {u : Fin 3 → EReal} (hv : ∀ a, v a = u a) (a : Fin 3) :
    Ideal.div (v a) (Ideal.sqrt (∑ x, v x * v x) + Ideal.ofBits .f32 0x358637BD#32) = unit3 u a := by
  rw [show v = u from funext hv]; rfl

theorem pay8_at (h : Reads N l x0 x1 x2 x3 x4 x5 x6 x7 x8 x9 x10 x11 x12 x13 x14 x15 x16 x17 x18 x19 x20 x21 x22) (a : Fin 3) :
    k0_pay8 (k0_pay5 x0 x4 x5) (k0_pay6 x0 x4 x5 x6 x7) x10 x11 x12 (ix2 a l) = N.normal a := by
  pointwise [k0_pay8]
  have e : ∀ a : Fin 3, (∑ x : Fin 64, x12 (ix2 a x)
      * ((∑ y : Fin 64, x11 (ix2 x y) * (x10 (ix2 y 0) * Ideal.logistic (k0_pay6 x0 x4 x5 x6 x7 (ix2 y l))))
          * Ideal.logistic (k0_pay5 x0 x4 x5 (ix2 x l)))) = N.grad a := fun a => by
    rw [Net.grad]
    refine Finset.sum_congr rfl fun k _ => ?_
    rw [h.h12, pay5_at h, mul_comm, Net.d0]
    refine congrArg (fun z => z * Ideal.logistic (N.y0 k) * N.Wg0 a k) (Finset.sum_congr rfl fun j _ => ?_)
    rw [h.h11, h.h10, pay6_at h, mul_comm]; rfl
  exact unit3_of e a

/-! ## The angles -/

theorem pay9_at (h : Reads N l x0 x1 x2 x3 x4 x5 x6 x7 x8 x9 x10 x11 x12 x13 x14 x15 x16 x17 x18 x19 x20 x21 x22) (a : Fin 3) :
    k0_pay9 (k0_pay1 x0) (k0_pay4 x3) (ix2 a l) = N.cam a - N.p a := by
  pointwise [k0_pay9, k0_pay1, k0_pay4]
  rw [h.h3, h.h0]

theorem pay10_at (h : Reads N l x0 x1 x2 x3 x4 x5 x6 x7 x8 x9 x10 x11 x12 x13 x14 x15 x16 x17 x18 x19 x20 x21 x22) :
    k0_pay10 (k0_pay1 x0) (k0_pay4 x3) (ix2 0 l) = dot3 (fun a => N.cam a - N.p a) (fun a => N.cam a - N.p a) := by
  pointwise [k0_pay10]
  simp only [pay9_at h]; rfl

/-- The two cosines, held away from ±1. -/
def cosine (N : Net) (t : Fin 2) : EReal :=
  if t.val < 1 then clampCos (dot3 N.half N.normal) else clampCos (dot3 N.half N.view)

theorem pay11_at (h : Reads N l x0 x1 x2 x3 x4 x5 x6 x7 x8 x9 x10 x11 x12 x13 x14 x15 x16 x17 x18 x19 x20 x21 x22) (t : Fin 2) :
    k0_pay11 (k0_pay2 x1) (k0_pay8 (k0_pay5 x0 x4 x5) (k0_pay6 x0 x4 x5 x6 x7) x10 x11 x12) (k0_pay9 (k0_pay1 x0) (k0_pay4 x3))
      (k0_pay10 (k0_pay1 x0) (k0_pay4 x3)) (ix2 t l) = cosine N t := by
  pointwise [k0_pay11, k0_pay2]
  simp only [pay9_at h, pay10_at h, pay8_at h, h.h1]
  rfl

/-- The angle from its cosine. -/
theorem pay14_at (v106 v107 v121 : FVec Ideal S2x16384 .f32) (t : Fin 2) (x : EReal) (hx : v106 (ix2 t l) = x)
    (h107 : v107 (ix2 t l) = max x (-x))
    (h121 : v121 (ix2 t l) = max x (-x) * (lit 0xBD4D8392#32 + max x (-x) * (lit 0x3CFD10F8#32
      + max x (-x) * (lit 0xBC8BFC66#32 + max x (-x) * (lit 0x3BDA90C5#32 + max x (-x) * lit 0xBAA57A2C#32))))) :
    k0_pay14 v106 v107 v121 (Scalar.ofBits .f32 0x3DB63A9E#32) (ix2 t l) = acosP x := by
  pointwise [k0_pay14]
  rw [hx, h107, h121]
  rfl

theorem pay12_at (v3 v71 v73 v76) (t : Fin 2) :
    k0_pay12 (F := Ideal) v3 v71 v73 v76 (ix2 t l) = max (k0_pay11 v3 v71 v73 v76 (ix2 t l)) (-(k0_pay11 v3 v71 v73 v76 (ix2 t l))) := rfl

theorem pay13_at (v3 v71 v73 v76) (t : Fin 2) (x : EReal) (hx : k0_pay11 (F := Ideal) v3 v71 v73 v76 (ix2 t l) = x) :
    k0_pay13 (F := Ideal) v3 v71 v73 v76 (ix2 t l) = max x (-x) * (lit 0xBD4D8392#32 + max x (-x) * (lit 0x3CFD10F8#32
      + max x (-x) * (lit 0xBC8BFC66#32 + max x (-x) * (lit 0x3BDA90C5#32 + max x (-x) * lit 0xBAA57A2C#32)))) := by
  pointwise [k0_pay13]
  rw [pay12_at, hx]

theorem angle_at (h : Reads N l x0 x1 x2 x3 x4 x5 x6 x7 x8 x9 x10 x11 x12 x13 x14 x15 x16 x17 x18 x19 x20 x21 x22) (v3 v71 v73 v76)
    (hc : ∀ t : Fin 2, k0_pay11 (F := Ideal) v3 v71 v73 v76 (ix2 t l) = cosine N t) (t : Fin 2) :
    k0_pay14 (k0_pay11 v3 v71 v73 v76) (k0_pay12 v3 v71 v73 v76) (k0_pay13 v3 v71 v73 v76) (Scalar.ofBits .f32 0x3DB63A9E#32) (ix2 t l)
      = N.theta t := by
  rw [pay14_at _ _ _ t _ (hc t) (by rw [pay12_at, hc t]) (pay13_at _ _ _ _ t _ (hc t)), cosine, Net.theta]
  split <;> rfl

/-! ## The appearance networks -/

/-- A sum over the 128 units of two networks side by side. -/
theorem sum_two (f : Fin 128 → EReal) :
    ∑ k, f k = (∑ j : Fin 64, f ⟨j.val, by omega⟩) + ∑ j : Fin 64, f ⟨64 + j.val, by omega⟩ :=
  Fin.sum_univ_two_halves 64 64 rfl f

/-- A sum over 27 products, nine for each colour. -/
theorem sum_colours (f : Fin 27 → EReal) : ∑ r, f r = ∑ k : Fin 3, ∑ j : Fin 9, f ⟨9 * k.val + j.val, by omega⟩ := by
  rw [← Fintype.sum_prod_type']
  exact (Equiv.sum_comp (finProdFinEquiv (m := 3) (n := 9)) f).symm.trans
    (Finset.sum_congr rfl fun x _ => congrArg f (Fin.ext (by simp [finProdFinEquiv, add_comm])))

/-- The hidden layer's units of the two networks, as the kernel writes them. -/
def unit128 (x13 : Vec Ideal S128x3 .f32) (x14 : Vec Ideal S128x32 .f32) (x15 : Vec Ideal S128x1 .f32) (p : Fin 3 → EReal) (q : Fin 32 → EReal)
    (r : Fin 128) : EReal :=
  max (∑ a, x13 (ix2 r a) * p a + ∑ f, x14 (ix2 r f) * q f + x15 (ix2 r 0)) 0

theorem unit128_d (h : Reads N l x0 x1 x2 x3 x4 x5 x6 x7 x8 x9 x10 x11 x12 x13 x14 x15 x16 x17 x18 x19 x20 x21 x22) (j : Fin 64) :
    unit128 x13 x14 x15 N.p N.feat ⟨j.val, by omega⟩ = N.hid N.Wd0 N.bd0 j := by
  rw [unit128, Net.hid]
  simp only [h.h13d, h.h14d, h.h15d, mul_comm (N.Wd0 _ _)]

theorem unit128_c (h : Reads N l x0 x1 x2 x3 x4 x5 x6 x7 x8 x9 x10 x11 x12 x13 x14 x15 x16 x17 x18 x19 x20 x21 x22) (j : Fin 64) :
    unit128 x13 x14 x15 N.p N.feat ⟨64 + j.val, by omega⟩ = N.hid N.Wc0 N.bc0 j := by
  rw [unit128, Net.hid]
  simp only [h.h13c, h.h14c, h.h15c, mul_comm (N.Wc0 _ _)]

theorem pay15_at (h : Reads N l x0 x1 x2 x3 x4 x5 x6 x7 x8 x9 x10 x11 x12 x13 x14 x15 x16 x17 x18 x19 x20 x21 x22) (r : Fin 17)
    {v52 : FVec Ideal S32x16384 .f32} (h52 : ∀ f : Fin 32, v52 (ix2 f l) = N.feat f) :
    k0_pay15 (k0_pay1 x0) v52 x13 x14 x15 x16 x17 (ix2 r l)
      = (∑ j : Fin 64, x16 (ix2 r (⟨j.val, by omega⟩ : Fin 128)) * N.hid N.Wd0 N.bd0 j
          + ∑ j : Fin 64, x16 (ix2 r (⟨64 + j.val, by omega⟩ : Fin 128)) * N.hid N.Wc0 N.bc0 j) + x17 (ix2 r 0) := by
  pointwise [k0_pay15, k0_pay1]
  simp only [h52, h.h0]
  rw [sum_two]
  simp only [← unit128_d h, ← unit128_c h]
  rfl

theorem pay15_coef (h : Reads N l x0 x1 x2 x3 x4 x5 x6 x7 x8 x9 x10 x11 x12 x13 x14 x15 x16 x17 x18 x19 x20 x21 x22) (k : Fin 9)
    {v52 : FVec Ideal S32x16384 .f32} (h52 : ∀ f : Fin 32, v52 (ix2 f l) = N.feat f) :
    k0_pay15 (k0_pay1 x0) v52 x13 x14 x15 x16 x17 (ix2 (⟨8 + k.val, by omega⟩ : Fin 17) l) = N.coef k := by
  rw [pay15_at h _ h52]
  simp only [h.h16c', h.h16c, zero_mul, Finset.sum_const_zero, zero_add]
  exact layer_of (fun _ => rfl) (fun _ => rfl) (h.h17c k)

theorem pay16_at (h : Reads N l x0 x1 x2 x3 x4 x5 x6 x7 x8 x9 x10 x11 x12 x13 x14 x15 x16 x17 x18 x19 x20 x21 x22) (k : Fin 3)
    {v52 : FVec Ideal S32x16384 .f32} (h52 : ∀ f : Fin 32, v52 (ix2 f l) = N.feat f) :
    k0_pay16 (k0_pay1 x0) v52 x13 x14 x15 x16 x17 (ix2 k l) = layer N.Wd1 N.bd1 (N.hid N.Wd0 N.bd0) k := by
  unfold k0_pay16
  have e : ∀ v : FVec Ideal S17x16384 .f32, extractStridedSlice S3x16384 ![0, 0] v slices_S17x16384_o0_0_S3x16384 (ix2 k l)
      = v (ix2 (⟨k.val, by omega⟩ : Fin 17) l) := fun v => by pointwise
  refine (e _).trans ?_
  rw [pay15_at h _ h52]
  simp only [h.h16d', h.h16d, zero_mul, Finset.sum_const_zero, add_zero]
  exact layer_of (fun _ => rfl) (fun _ => rfl) (h.h17d k)

/-! ## The colour -/

theorem pay17_at (h : Reads N l x0 x1 x2 x3 x4 x5 x6 x7 x8 x9 x10 x11 x12 x13 x14 x15 x16 x17 x18 x19 x20 x21 x22) (k : Fin 3)
    {v71 : FVec Ideal S3x16384 .f32} (h71 : ∀ a : Fin 3, v71 (ix2 a l) = N.normal a)
    {v140 : FVec Ideal S2x16384 .f32} (h140 : ∀ t : Fin 2, v140 (ix2 t l) = N.theta t)
    {v160 : FVec Ideal S17x16384 .f32} (h160 : ∀ j : Fin 9, v160 (ix2 (⟨8 + j.val, by omega⟩ : Fin 17) l) = N.coef j)
    {v161 : FVec Ideal S3x16384 .f32} (h161 : ∀ k : Fin 3, v161 (ix2 k l) = layer N.Wd1 N.bd1 (N.hid N.Wd0 N.bd0) k) :
    k0_pay17 (k0_pay2 x1) (k0_pay3 x2) v71 v140 v160 v161 x18 x19 x20 x21 x22 (ix2 k l) = N.colour k := by
  have hs : ∀ i : Fin 64, max ((∑ t : Fin 2, x18 (ix2 i t) * v140 (ix2 t l)) + x19 (ix2 i 0)) 0 = N.hs i := fun i => by
    rw [Net.hs]
    refine congrArg (max · 0) ?_
    rw [layer, h.h19]
    refine congrArg (· + _) (Finset.sum_congr rfl fun t _ => ?_)
    rw [h.h18, h140, mul_comm _ (N.theta t), mul_assoc]
  have hb : ∀ (k : Fin 3) (j : Fin 9), max ((∑ i : Fin 64, x20 (ix2 (⟨9 * k.val + j.val, by omega⟩ : Fin 27) i) * N.hs i)
      + x21 (ix2 (⟨9 * k.val + j.val, by omega⟩ : Fin 27) 0)) 0 = N.basis ⟨j.val * 3 + k.val, by omega⟩ := fun k j => by
    rw [Net.basis]
    exact congrArg (max · 0) (layer_of (fun i => h.h20 k j i) (fun _ => rfl) (h.h21 k j))
  pointwise [k0_pay17, k0_pay2, k0_pay3]
  simp only [hs]
  rw [sum_colours]
  simp only [hb, h.h22]
  simp only [h71, h161, h.h1, h.h2]
  refine congrArg (fun z => min 1 (max 0 (N.shade * (N.albedo k + z) * N.inten k))) ?_
  refine (Finset.sum_eq_single k (fun k' _ hk => ?_) (fun hk => absurd (Finset.mem_univ k) hk)).trans ?_
  · simp only [if_neg (Ne.symm hk), zero_mul, Finset.sum_const_zero]
  · rw [Net.spec]
    refine Finset.sum_congr rfl fun j _ => ?_
    rw [if_pos rfl, one_mul]
    refine congrArg (N.basis _ * ·) ?_
    have hj := j.isLt
    have hk := k.isLt
    split
    · exact (congrArg (fun r => v160 (ix2 r l)) (Fin.ext (by simp only; omega))).trans (h160 j)
    · split
      · exact (congrArg (fun r => v160 (ix2 r l)) (Fin.ext (by simp only; omega))).trans (h160 j)
      · exact (congrArg (fun r => v160 (ix2 r l)) (Fin.ext (by simp only; omega))).trans (h160 j)

end Cert.Shading

end
-- ==== Proof.Host.lean ====
/- The arrays that the kernel's windows cut their blocks from, as the host operations before the region leave them, each read
   at an index back to the argument arrays. -/
module

public import proofs.«01_k».proof.Proof.BodyKernelIdeal
public import proofs.«01_k».proof.Proof.Block
public import Idealize.ShloMosaic.Lib.Pipeline.ValueKit
public import Idealize.ShloMosaic.Lib.StableHlo.ReadAt

@[expose] public section

set_option maxRecDepth 16384

noncomputable section

namespace Cert.Shading

open Idealize.ShloMosaic Idealize.ShloMosaic.TcCoe Idealize.SL.Sem Cert.KernelIdeal Cert.KernelIdeal.Gen

variable (m : (ℓ : Loc nD τ sig) → Buf (Elt Ideal) ℓ) (c : Dev nD)

/-! ## The permutation of the specular network's outputs -/

/-- The column of positions that both permuted arrays are gathered at. -/
abbrev permIdx : IVec S27x1 32 := broadcastInDim S27x1 ![0] bcast_S27_S27x1_0
        (select (constantI S27 1 0#1)
          (addi (fun i => lit0 (S27.rowMajor i)) (broadcastInDim S27 ![] bcast_S_S27 (constantI S_ 32 27#32))) fun i =>
          lit0 (S27.rowMajor i))

/-- Row `9 k + j` takes the output `3 j + k`. -/
theorem perm_at : ∀ (k : Fin 3) (j : Fin 9), permIdx (ix2 (⟨9 * k.val + j.val, by omega⟩ : Fin 27) (0 : Fin 1)) = BitVec.ofNat 32 (j.val * 3 + k.val) := by
  decide +kernel

theorem gather_row (x : FVec Ideal S27 .f32) (r : Fin 27) :
  Host.gather gather_S27_S27x1_S27_n_0_n_n_0_1_1 x permIdx (ix1 r) = x (ix1 ⟨min (permIdx (ix2 r 0)).toInt.toNat 26, by omega⟩) := by
  unfold Host.gather
  congr 1
  funext a
  obtain rfl : a = 0 := Subsingleton.elim _ _
  refine Fin.ext ?_
  rfl

theorem gather_col (x : FVec Ideal S64x27 .f32) (i : Fin 64) (r : Fin 27) :
  Host.gather gather_S64x27_S27x1_S64x27_0_1_n_n_1_1_641 x permIdx (ix2 i r) = x (ix2 i ⟨min (permIdx (ix2 r 0)).toInt.toNat 26, by omega⟩) := by
  unfold Host.gather
  congr 1
  funext a
  refine Fin.ext ?_
  match a with
  | ⟨0, _⟩ => exact Nat.zero_add _
  | ⟨1, _⟩ => rfl

theorem min_at : ∀ (k : Fin 3) (j : Fin 9), min (BitVec.ofNat 32 (j.val * 3 + k.val)).toInt.toNat 26 = j.val * 3 + k.val := by
  decide +kernel

/-- The table that sums the nine rows of each colour. -/
theorem lit1_at : ∀ (k k' : Fin 3) (j : Fin 9), lit1 (S3x27.rowMajor (ix2 k (⟨9 * k'.val + j.val, by omega⟩ : Fin 27))) = if k = k' then 0x3F800000#32 else 0x00000000#32 := by
  decide +kernel

/-! ## The windows' arrays -/

theorem v0_at (a : Fin 3) (n : Fin 262144) : V m c main_v0 (ix2 a n) = m ((c : Thread nD τ).loc main_arg0) (ix2 n a) := by
  unfold V V0
  simp only [hostOps0, hostOps0_1, hostOps0_2, List.flatten_cons, List.flatten_nil, List.append_nil, List.cons_append, List.nil_append]
  after_reads_at

theorem v5_at (a : Fin 3) : V m c main_v5 (ix2 a 0) = unit3 (fun a => m ((c : Thread nD τ).loc main_arg1) (ix1 a)) a := by
  unfold V V0
  simp only [hostOps0, hostOps0_1, hostOps0_2, List.flatten_cons, List.flatten_nil, List.append_nil, List.cons_append, List.nil_append]
  after_reads_at
  rfl

theorem v6_at (a : Fin 3) : V m c main_v6 (ix2 a 0) = m ((c : Thread nD τ).loc main_arg2) (ix1 a) := by
  unfold V V0
  simp only [hostOps0, hostOps0_1, hostOps0_2, List.flatten_cons, List.flatten_nil, List.append_nil, List.cons_append, List.nil_append]
  after_reads_at

theorem v7_at (a : Fin 3) : V m c main_v7 (ix2 a 0) = m ((c : Thread nD τ).loc main_arg3) (ix1 a) := by
  unfold V V0
  simp only [hostOps0, hostOps0_1, hostOps0_2, List.flatten_cons, List.flatten_nil, List.append_nil, List.cons_append, List.nil_append]
  after_reads_at

theorem v8_at (i : Fin 64) (a : Fin 3) : V m c main_v8 (ix2 i a) = m ((c : Thread nD τ).loc main_arg4) (ix2 a i) := by
  unfold V V0
  simp only [hostOps0, hostOps0_1, hostOps0_2, List.flatten_cons, List.flatten_nil, List.append_nil, List.cons_append, List.nil_append]
  after_reads_at

theorem v53_at (i : Fin 64) : V m c main_v53 (ix2 i 0) = m ((c : Thread nD τ).loc main_arg5) (ix1 i) := by
  unfold V V0
  simp only [hostOps0, hostOps0_1, hostOps0_2, List.flatten_cons, List.flatten_nil, List.append_nil, List.cons_append, List.nil_append]
  after_reads_at

theorem v9_at (i k : Fin 64) : V m c main_v9 (ix2 i k) = m ((c : Thread nD τ).loc main_arg6) (ix2 k i) := by
  unfold V V0
  simp only [hostOps0, hostOps0_1, hostOps0_2, List.flatten_cons, List.flatten_nil, List.append_nil, List.cons_append, List.nil_append]
  after_reads_at

theorem v54_at (i : Fin 64) : V m c main_v54 (ix2 i 0) = m ((c : Thread nD τ).loc main_arg7) (ix1 i) := by
  unfold V V0
  simp only [hostOps0, hostOps0_1, hostOps0_2, List.flatten_cons, List.flatten_nil, List.append_nil, List.cons_append, List.nil_append]
  after_reads_at

theorem v11_at (f : Fin 32) (k : Fin 64) : V m c main_v11 (ix2 f k) = m ((c : Thread nD τ).loc main_arg8) (ix2 k ⟨1 + f.val, by omega⟩) := by
  unfold V V0
  simp only [hostOps0, hostOps0_1, hostOps0_2, List.flatten_cons, List.flatten_nil, List.append_nil, List.cons_append, List.nil_append]
  after_reads_at

theorem v13_at (f : Fin 32) : V m c main_v13 (ix2 f 0) = m ((c : Thread nD τ).loc main_arg9) (ix1 ⟨1 + f.val, by omega⟩) := by
  unfold V V0
  simp only [hostOps0, hostOps0_1, hostOps0_2, List.flatten_cons, List.flatten_nil, List.append_nil, List.cons_append, List.nil_append]
  after_reads_at

theorem v16_at (j : Fin 64) : V m c main_v16 (ix2 j 0) = m ((c : Thread nD τ).loc main_arg8) (ix2 j ⟨0, by omega⟩) := by
  unfold V V0
  simp only [hostOps0, hostOps0_1, hostOps0_2, List.flatten_cons, List.flatten_nil, List.append_nil, List.cons_append, List.nil_append]
  after_reads_at

theorem v20_d (j : Fin 64) (a : Fin 3) : V m c main_v20 (ix2 (⟨j.val, by omega⟩ : Fin 128) a) = m ((c : Thread nD τ).loc main_arg10) (ix2 ⟨a.val, by omega⟩ j) := by
  unfold V V0
  simp only [hostOps0, hostOps0_1, hostOps0_2, List.flatten_cons, List.flatten_nil, List.append_nil, List.cons_append, List.nil_append]
  after_reads_at
  try after_reads_at

theorem v24_d (j : Fin 64) (f : Fin 32) : V m c main_v24 (ix2 (⟨j.val, by omega⟩ : Fin 128) f) = m ((c : Thread nD τ).loc main_arg10) (ix2 ⟨3 + f.val, by omega⟩ j) := by
  unfold V V0
  simp only [hostOps0, hostOps0_1, hostOps0_2, List.flatten_cons, List.flatten_nil, List.append_nil, List.cons_append, List.nil_append]
  after_reads_at
  try after_reads_at

theorem v26_d (j : Fin 64) : V m c main_v26 (ix2 (⟨j.val, by omega⟩ : Fin 128) 0) = m ((c : Thread nD τ).loc main_arg11) (ix1 j) := by
  unfold V V0
  simp only [hostOps0, hostOps0_1, hostOps0_2, List.flatten_cons, List.flatten_nil, List.append_nil, List.cons_append, List.nil_append]
  after_reads_at
  try after_reads_at

theorem v20_c (j : Fin 64) (a : Fin 3) : V m c main_v20 (ix2 (⟨64 + j.val, by omega⟩ : Fin 128) a) = m ((c : Thread nD τ).loc main_arg14) (ix2 ⟨a.val, by omega⟩ j) := by
  unfold V V0
  simp only [hostOps0, hostOps0_1, hostOps0_2, List.flatten_cons, List.flatten_nil, List.append_nil, List.cons_append, List.nil_append]
  after_reads_at
  try after_reads_at

theorem v24_c (j : Fin 64) (f : Fin 32) : V m c main_v24 (ix2 (⟨64 + j.val, by omega⟩ : Fin 128) f) = m ((c : Thread nD τ).loc main_arg14) (ix2 ⟨3 + f.val, by omega⟩ j) := by
  unfold V V0
  simp only [hostOps0, hostOps0_1, hostOps0_2, List.flatten_cons, List.flatten_nil, List.append_nil, List.cons_append, List.nil_append]
  after_reads_at
  try after_reads_at

theorem v26_c (j : Fin 64) : V m c main_v26 (ix2 (⟨64 + j.val, by omega⟩ : Fin 128) 0) = m ((c : Thread nD τ).loc main_arg15) (ix1 j) := by
  unfold V V0
  simp only [hostOps0, hostOps0_1, hostOps0_2, List.flatten_cons, List.flatten_nil, List.append_nil, List.cons_append, List.nil_append]
  after_reads_at
  try after_reads_at

theorem v34_d (k : Fin 3) (j : Fin 64) : V m c main_v34 (ix2 (⟨k.val, by omega⟩ : Fin 17) (⟨j.val, by omega⟩ : Fin 128)) = m ((c : Thread nD τ).loc main_arg12) (ix2 j k) := by
  unfold V V0
  simp only [hostOps0, hostOps0_1, hostOps0_2, List.flatten_cons, List.flatten_nil, List.append_nil, List.cons_append, List.nil_append]
  after_reads_at
  try after_reads_at

theorem v34_d' (k : Fin 3) (j : Fin 64) : V m c main_v34 (ix2 (⟨k.val, by omega⟩ : Fin 17) (⟨64 + j.val, by omega⟩ : Fin 128)) = (0 : EReal) := by
  unfold V V0
  simp only [hostOps0, hostOps0_1, hostOps0_2, List.flatten_cons, List.flatten_nil, List.append_nil, List.cons_append, List.nil_append]
  after_reads_at
  try after_reads_at

theorem v34_c (k : Fin 9) (j : Fin 64) : V m c main_v34 (ix2 (⟨8 + k.val, by omega⟩ : Fin 17) (⟨64 + j.val, by omega⟩ : Fin 128)) = m ((c : Thread nD τ).loc main_arg16) (ix2 j k) := by
  unfold V V0
  simp only [hostOps0, hostOps0_1, hostOps0_2, List.flatten_cons, List.flatten_nil, List.append_nil, List.cons_append, List.nil_append]
  after_reads_at
  try after_reads_at
  rw [dif_neg (by omega), dif_neg (by omega)]
  exact congrArg (fun r : Fin 9 => m ((c : Thread nD τ).loc main_arg16) (ix2 j r)) (Fin.ext (by simp only; omega))

theorem v34_c' (k : Fin 9) (j : Fin 64) : V m c main_v34 (ix2 (⟨8 + k.val, by omega⟩ : Fin 17) (⟨j.val, by omega⟩ : Fin 128)) = (0 : EReal) := by
  unfold V V0
  simp only [hostOps0, hostOps0_1, hostOps0_2, List.flatten_cons, List.flatten_nil, List.append_nil, List.cons_append, List.nil_append]
  after_reads_at
  try after_reads_at
  rw [dif_neg (by omega)]; exact ite_self _

theorem v37_d (k : Fin 3) : V m c main_v37 (ix2 (⟨k.val, by omega⟩ : Fin 17) 0) = m ((c : Thread nD τ).loc main_arg13) (ix1 k) := by
  unfold V V0
  simp only [hostOps0, hostOps0_1, hostOps0_2, List.flatten_cons, List.flatten_nil, List.append_nil, List.cons_append, List.nil_append]
  after_reads_at
  try after_reads_at

theorem v37_c (k : Fin 9) : V m c main_v37 (ix2 (⟨8 + k.val, by omega⟩ : Fin 17) 0) = m ((c : Thread nD τ).loc main_arg17) (ix1 k) := by
  unfold V V0
  simp only [hostOps0, hostOps0_1, hostOps0_2, List.flatten_cons, List.flatten_nil, List.append_nil, List.cons_append, List.nil_append]
  after_reads_at
  try after_reads_at
  rw [dif_neg (by omega), dif_neg (by omega)]
  exact congrArg (fun r : Fin 9 => m ((c : Thread nD τ).loc main_arg17) (ix1 r)) (Fin.ext (by simp only; omega))

theorem v40_at (i : Fin 64) (t : Fin 2) : V m c main_v40 (ix2 i t) = lit 0x3EA2F983#32 * m ((c : Thread nD τ).loc main_arg18) (ix2 t i) := by
  unfold V V0
  simp only [hostOps0, hostOps0_1, hostOps0_2, List.flatten_cons, List.flatten_nil, List.append_nil, List.cons_append, List.nil_append]
  after_reads_at

theorem v55_at (i : Fin 64) : V m c main_v55 (ix2 i 0) = m ((c : Thread nD τ).loc main_arg19) (ix1 i) := by
  unfold V V0
  simp only [hostOps0, hostOps0_1, hostOps0_2, List.flatten_cons, List.flatten_nil, List.append_nil, List.cons_append, List.nil_append]
  after_reads_at

theorem v46_at (k : Fin 3) (j : Fin 9) (i : Fin 64) : V m c main_v46 (ix2 (⟨9 * k.val + j.val, by omega⟩ : Fin 27) i) = m ((c : Thread nD τ).loc main_arg20) (ix2 i ⟨j.val * 3 + k.val, by omega⟩) := by
  unfold V V0
  simp only [hostOps0, hostOps0_1, hostOps0_2, List.flatten_cons, List.flatten_nil, List.append_nil, List.cons_append, List.nil_append]
  after_reads_at
  refine (gather_col _ i _).trans (congrArg (fun r : Fin 27 => m ((c : Thread nD τ).loc main_arg20) (ix2 i r)) (Fin.ext ?_))
  show min (permIdx _).toInt.toNat 26 = _
  rw [perm_at, min_at]

theorem v52_at (k : Fin 3) (j : Fin 9) : V m c main_v52 (ix2 (⟨9 * k.val + j.val, by omega⟩ : Fin 27) 0) = m ((c : Thread nD τ).loc main_arg21) (ix1 ⟨j.val * 3 + k.val, by omega⟩) := by
  unfold V V0
  simp only [hostOps0, hostOps0_1, hostOps0_2, List.flatten_cons, List.flatten_nil, List.append_nil, List.cons_append, List.nil_append]
  after_reads_at
  refine (gather_row _ _).trans (congrArg (fun r : Fin 27 => m ((c : Thread nD τ).loc main_arg21) (ix1 r)) (Fin.ext ?_))
  show min (permIdx _).toInt.toNat 26 = _
  rw [perm_at, min_at]

theorem cst_at (k k' : Fin 3) (j : Fin 9) : V m c main_cst (ix2 k (⟨9 * k'.val + j.val, by omega⟩ : Fin 27)) = (if k = k' then 1 else 0 : EReal) := by
  unfold V V0
  simp only [hostOps0, hostOps0_1, hostOps0_2, List.flatten_cons, List.flatten_nil, List.append_nil, List.cons_append, List.nil_append]
  after_reads_at
  rw [lit1_at]
  split
  · exact Ideal.ofBits_one_f32
  · exact Ideal.ofBits_zero_f32

end Cert.Shading

end
-- ==== Proof.Region.lean ====
/- The kernel's result array after the run: at row `n`, the colour of the shading network at sample `n` of the argument arrays. -/
module

public import proofs.«01_k».proof.Proof.Host

@[expose] public section

set_option maxRecDepth 16384

noncomputable section

namespace Cert.Shading

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The network at sample `n` of core `c`'s argument arrays. -/
abbrev net (n : Fin 262144) : Net :=
  Net.at_ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) n

/-- The positions and the result move one tile of columns a point; every other window stays. -/
theorem idx : ∀ t : Fin cfg0.N, win0_0.index t = ![0, t.val] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, t.val] ∧ t.val < 16 :=
  (by decide +kernel : ∀ t : Fin grid0.N, _)

variable (t : Fin cfg0.N)

/-- Column `l` of point `t`'s blocks is this sample. -/
def sample (l : Fin 16384) : Fin 262144 := ⟨t.val * 16384 + l.val, by have := (idx t).2.2.2.2.2.2.2.2.2.2.2.2.2.2.2.2.2.2.2.2.2.2.2.2; omega⟩

theorem blk0 (a : Fin 3) (b : Fin 16384) : (iblk m c 0 t : Vec Ideal S3x16384 .f32) (ix2 a b) = V m c main_v0 (ix2 a (sample t b)) := by
  blk_ext [iblk, idx t, sample]

theorem blk1 (a : Fin 3) (b : Fin 1) : (iblk m c 1 t : Vec Ideal S3x1 .f32) (ix2 a b) = V m c main_v5 (ix2 a b) := by
  blk_ext [iblk, idx t, sample]

theorem blk2 (a : Fin 3) (b : Fin 1) : (iblk m c 2 t : Vec Ideal S3x1 .f32) (ix2 a b) = V m c main_v6 (ix2 a b) := by
  blk_ext [iblk, idx t, sample]

theorem blk3 (a : Fin 3) (b : Fin 1) : (iblk m c 3 t : Vec Ideal S3x1 .f32) (ix2 a b) = V m c main_v7 (ix2 a b) := by
  blk_ext [iblk, idx t, sample]

theorem blk4 (a : Fin 64) (b : Fin 3) : (iblk m c 4 t : Vec Ideal S64x3 .f32) (ix2 a b) = V m c main_v8 (ix2 a b) := by
  blk_ext [iblk, idx t, sample]

theorem blk5 (a : Fin 64) (b : Fin 1) : (iblk m c 5 t : Vec Ideal S64x1 .f32) (ix2 a b) = V m c main_v53 (ix2 a b) := by
  blk_ext [iblk, idx t, sample]

theorem blk6 (a : Fin 64) (b : Fin 64) : (iblk m c 6 t : Vec Ideal S64x64 .f32) (ix2 a b) = V m c main_v9 (ix2 a b) := by
  blk_ext [iblk, idx t, sample]

theorem blk7 (a : Fin 64) (b : Fin 1) : (iblk m c 7 t : Vec Ideal S64x1 .f32) (ix2 a b) = V m c main_v54 (ix2 a b) := by
  blk_ext [iblk, idx t, sample]

theorem blk8 (a : Fin 32) (b : Fin 64) : (iblk m c 8 t : Vec Ideal S32x64 .f32) (ix2 a b) = V m c main_v11 (ix2 a b) := by
  blk_ext [iblk, idx t, sample]

theorem blk9 (a : Fin 32) (b : Fin 1) : (iblk m c 9 t : Vec Ideal S32x1 .f32) (ix2 a b) = V m c main_v13 (ix2 a b) := by
  blk_ext [iblk, idx t, sample]

theorem blk10 (a : Fin 64) (b : Fin 1) : (iblk m c 10 t : Vec Ideal S64x1 .f32) (ix2 a b) = V m c main_v16 (ix2 a b) := by
  blk_ext [iblk, idx t, sample]

theorem blk11 (a : Fin 64) (b : Fin 64) : (iblk m c 11 t : Vec Ideal S64x64 .f32) (ix2 a b) = V m c main_arg6 (ix2 a b) := by
  blk_ext [iblk, idx t, sample]

theorem blk12 (a : Fin 3) (b : Fin 64) : (iblk m c 12 t : Vec Ideal S3x64 .f32) (ix2 a b) = V m c main_arg4 (ix2 a b) := by
  blk_ext [iblk, idx t, sample]

theorem blk13 (a : Fin 128) (b : Fin 3) : (iblk m c 13 t : Vec Ideal S128x3 .f32) (ix2 a b) = V m c main_v20 (ix2 a b) := by
  blk_ext [iblk, idx t, sample]

theorem blk14 (a : Fin 128) (b : Fin 32) : (iblk m c 14 t : Vec Ideal S128x32 .f32) (ix2 a b) = V m c main_v24 (ix2 a b) := by
  blk_ext [iblk, idx t, sample]

theorem blk15 (a : Fin 128) (b : Fin 1) : (iblk m c 15 t : Vec Ideal S128x1 .f32) (ix2 a b) = V m c main_v26 (ix2 a b) := by
  blk_ext [iblk, idx t, sample]

theorem blk16 (a : Fin 17) (b : Fin 128) : (iblk m c 16 t : Vec Ideal S17x128 .f32) (ix2 a b) = V m c main_v34 (ix2 a b) := by
  blk_ext [iblk, idx t, sample]

theorem blk17 (a : Fin 17) (b : Fin 1) : (iblk m c 17 t : Vec Ideal S17x1 .f32) (ix2 a b) = V m c main_v37 (ix2 a b) := by
  blk_ext [iblk, idx t, sample]

theorem blk18 (a : Fin 64) (b : Fin 2) : (iblk m c 18 t : Vec Ideal S64x2 .f32) (ix2 a b) = V m c main_v40 (ix2 a b) := by
  blk_ext [iblk, idx t, sample]

theorem blk19 (a : Fin 64) (b : Fin 1) : (iblk m c 19 t : Vec Ideal S64x1 .f32) (ix2 a b) = V m c main_v55 (ix2 a b) := by
  blk_ext [iblk, idx t, sample]

theorem blk20 (a : Fin 27) (b : Fin 64) : (iblk m c 20 t : Vec Ideal S27x64 .f32) (ix2 a b) = V m c main_v46 (ix2 a b) := by
  blk_ext [iblk, idx t, sample]

theorem blk21 (a : Fin 27) (b : Fin 1) : (iblk m c 21 t : Vec Ideal S27x1 .f32) (ix2 a b) = V m c main_v52 (ix2 a b) := by
  blk_ext [iblk, idx t, sample]

theorem blk22 (a : Fin 3) (b : Fin 27) : (iblk m c 22 t : Vec Ideal S3x27 .f32) (ix2 a b) = V m c main_cst (ix2 a b) := by
  blk_ext [iblk, idx t, sample]

/-- Point `t`'s blocks hold the network of their samples. -/
theorem reads (l : Fin 16384) : Reads (net m c (sample t l)) l (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) where
  h0 a := (blk0 m c t a l).trans (v0_at m c a _)
  h1 a := (blk1 m c t a 0).trans (v5_at m c a)
  h2 a := (blk2 m c t a 0).trans (v6_at m c a)
  h3 a := (blk3 m c t a 0).trans (v7_at m c a)
  h4 i a := (blk4 m c t i a).trans (v8_at m c i a)
  h5 i := (blk5 m c t i 0).trans (v53_at m c i)
  h6 i k := (blk6 m c t i k).trans (v9_at m c i k)
  h7 i := (blk7 m c t i 0).trans (v54_at m c i)
  h8 f k := (blk8 m c t f k).trans (v11_at m c f k)
  h9 f := (blk9 m c t f 0).trans (v13_at m c f)
  h10 j := (blk10 m c t j 0).trans (v16_at m c j)
  h11 k j := (blk11 m c t k j).trans (congrFun (V_main_arg6 m c) _)
  h12 a k := (blk12 m c t a k).trans (congrFun (V_main_arg4 m c) _)
  h13d j a := (blk13 m c t _ a).trans (v20_d m c j a)
  h13c j a := (blk13 m c t _ a).trans (v20_c m c j a)
  h14d j f := (blk14 m c t _ f).trans (v24_d m c j f)
  h14c j f := (blk14 m c t _ f).trans (v24_c m c j f)
  h15d j := (blk15 m c t _ 0).trans (v26_d m c j)
  h15c j := (blk15 m c t _ 0).trans (v26_c m c j)
  h16d k j := (blk16 m c t _ _).trans (v34_d m c k j)
  h16d' k j := (blk16 m c t _ _).trans (v34_d' m c k j)
  h16c k j := (blk16 m c t _ _).trans (v34_c m c k j)
  h16c' k j := (blk16 m c t _ _).trans (v34_c' m c k j)
  h17d k := (blk17 m c t _ 0).trans (v37_d m c k)
  h17c k := (blk17 m c t _ 0).trans (v37_c m c k)
  h18 i t' := (blk18 m c t i t').trans (v40_at m c i t')
  h19 i := (blk19 m c t i 0).trans (v55_at m c i)
  h20 k j i := (blk20 m c t _ i).trans (v46_at m c k j i)
  h21 k j := (blk21 m c t _ 0).trans (v52_at m c k j)
  h22 k k' j := (blk22 m c t k _).trans (cst_at m c k k' j)

/-- What the body leaves in the result window's buffer. -/
theorem out_at {N : Net} {l : Fin 16384} {x0 x1 x2 x3 x4 x5 x6 x7 x8 x9 x10 x11 x12 x13 x14 x15 x16 x17 x18 x19 x20 x21 x22}
    (h : Reads N l x0 x1 x2 x3 x4 x5 x6 x7 x8 x9 x10 x11 x12 x13 x14 x15 x16 x17 x18 x19 x20 x21 x22) (k : Fin 3) : out0_23 (F := Ideal) x0 x1 x2 x3 x4 x5 x6 x7 x8 x9 x10 x11 x12 x13 x14 x15 x16 x17 x18 x19 x20 x21 x22 (ix2 k l) = N.colour k := by
  have e : out0_23 (F := Ideal) x0 x1 x2 x3 x4 x5 x6 x7 x8 x9 x10 x11 x12 x13 x14 x15 x16 x17 x18 x19 x20 x21 x22 = k0_pay17 (k0_pay2 x1) (k0_pay3 x2) (k0_pay8 (k0_pay5 x0 x4 x5) (k0_pay6 x0 x4 x5 x6 x7) x10 x11 x12)
      (k0_pay14 (k0_pay11 (k0_pay2 x1) (k0_pay8 (k0_pay5 x0 x4 x5) (k0_pay6 x0 x4 x5 x6 x7) x10 x11 x12) (k0_pay9 (k0_pay1 x0) (k0_pay4 x3)) (k0_pay10 (k0_pay1 x0) (k0_pay4 x3)))
        (k0_pay12 (k0_pay2 x1) (k0_pay8 (k0_pay5 x0 x4 x5) (k0_pay6 x0 x4 x5 x6 x7) x10 x11 x12) (k0_pay9 (k0_pay1 x0) (k0_pay4 x3)) (k0_pay10 (k0_pay1 x0) (k0_pay4 x3)))
        (k0_pay13 (k0_pay2 x1) (k0_pay8 (k0_pay5 x0 x4 x5) (k0_pay6 x0 x4 x5 x6 x7) x10 x11 x12) (k0_pay9 (k0_pay1 x0) (k0_pay4 x3)) (k0_pay10 (k0_pay1 x0) (k0_pay4 x3)))
        (Scalar.ofBits .f32 0x3DB63A9E#32))
      (k0_pay15 (k0_pay1 x0) (k0_pay7 (k0_pay6 x0 x4 x5 x6 x7) x8 x9) x13 x14 x15 x16 x17)
      (k0_pay16 (k0_pay1 x0) (k0_pay7 (k0_pay6 x0 x4 x5 x6 x7) x8 x9) x13 x14 x15 x16 x17) x18 x19 x20 x21 x22 := by
    unfold out0_23 k0_pay25 k0_pay24 k0_pay23 k0_pay22 k0_pay21 k0_pay20 k0_pay19 k0_pay18
    simp (disch := decide) only [View.ld_unit_lit, View.canon_cons_unit_lit]
  rw [e]
  exact pay17_at h k (pay8_at h) (angle_at h _ _ _ _ (pay11_at h)) (fun j => pay15_coef h j (pay7_at h)) (fun k => pay16_at h k (pay7_at h))

end Cert.Shading

end
-- ==== Proof.Final.lean ====
/- The kernel's result after the run: at row `n`, the colour of the shading network at sample `n` of the argument arrays. -/
module

public import proofs.«01_k».proof.Proof.Region

@[expose] public section

set_option maxRecDepth 16384

noncomputable section

namespace Cert.Shading

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- Where the result window's block at point `t` puts column `l`. -/
theorem emb_at (t : Fin cfg0.N) (k : Fin 3) (l : Fin 16384) :
    (((View.whole main_v56).slice (win0_23.rect t)).emb (ix2 k l) : S3x262144.Idx) = ix2 k (sample t l) := by
  blk_ext [idx t, sample]

/-- A block that holds the colours of its samples, at the places it is written to. -/
theorem place_at (t : Fin cfg0.N) (O : Vec Ideal S3x16384 .f32) (hO : ∀ k l, O (ix2 k l) = (net m c (sample t l)).colour k) (y : S3x16384.Idx) :
    O y = (net m c ((((View.whole main_v56).slice (win0_23.rect t)).emb y : S3x262144.Idx) 1)).colour
      ((((View.whole main_v56).slice (win0_23.rect t)).emb y : S3x262144.Idx) 0) := by
  rw [eq_ix2 y]
  refine (hO _ _).trans ?_
  rw [emb_at t (y 0) (y 1)]
  rfl

/-- The array that the region leaves: a column per sample. -/
theorem region_at : (dats m 0 c).arrAt 23 (cfgs 0).N = fun i : S3x262144.Idx => (net m c (i 1)).colour (i 0) := by
  refine (dats m 0 c).arrAt_eq_of_covers 23 _ (by decide +kernel) fun t hf y => ?_
  blk_simp
  rw [after0_23]
  exact place_at m c t _ (fun k l => out_at (reads m c t l) k) y

/-- The kernel's result: a row per sample. -/
theorem tail_at : Pipeline.afterTail₀ cfgs (dats m) 0 (V0 m) [hostOps1] c main_v57
    = fun i : S262144x3.Idx => (net m c (i 0)).colour (i 1) := by
  unfold Pipeline.afterTail₀
  simp only [hostOps1, List.flatten_cons, List.flatten_nil, List.append_nil]
  after_reads_simp
  have e := Pipeline.withArrays_arr (cfgs 0).spec (by decide +kernel) c (V0 m c) (fun w => (dats m 0 c).arrAt w (cfgs 0).N) 23
  refine (congrArg (fun x => transpose S262144x3 [1, 0] x transposes_S3x262144_S262144x3_1_0) (e.trans (region_at m c))).trans ?_
  funext i
  pointwise

end Cert.Shading

end
-- ==== Proof.Scalar.lean ====
/- Scalar facts on the extended reals that the reference's differentiation and its logistics need. -/
module

public import proofs.«01_k».proof.Proof.Model
public import Idealize.ShloMosaic.Lib.Pipeline.ValueKit

@[expose] public section

noncomputable section

namespace Cert.Shading

open Idealize.ShloMosaic Idealize.SL.Sem

/-- The sharpness constant of the softplus is one hundred. -/
theorem lit_hundred : Ideal.ofBits .f32 0x42C80000#32 = ((100 : ℝ) : EReal) := by
  simp [Ideal.ofBits, Ideal.ieee, -EReal.coe_mul]; norm_num

/-- The pattern of positive infinity. -/
theorem lit_inf : Ideal.ofBits .f32 0x7F800000#32 = (⊤ : EReal) := by
  simp [Ideal.ofBits, Ideal.ieee]

/-- The scaled softplus of the reference. -/
theorem soft_ref (y : EReal) :
    Ideal.div (max y 0 + Ideal.log1p (Ideal.exp (-FloatOps.absf (F := Ideal) (φ := .f32) y)))
      (Ideal.ofBits .f32 0x42C80000#32) = soft y := by
  rw [lit_hundred, Ideal.div_coe (by norm_num)]
  rfl

/-- Dividing by the sharpness and multiplying by it again changes nothing. -/
theorem hundred_cancel (w s : EReal) :
    Ideal.ofBits .f32 0x42C80000#32 * (Ideal.div w (Ideal.ofBits .f32 0x42C80000#32) * s) = w * s := by
  rw [lit_hundred, Ideal.div_coe (by norm_num), mul_comm, mul_assoc, mul_comm s, ← mul_assoc,
    mul_assoc w, ← EReal.coe_mul]
  norm_num

/-- The derivative that the reference keeps of a softplus: the exponential of the argument less the
softplus, an infinite one read as nought. It is the logistic of the argument. -/
theorem soft_slope (y : EReal) :
    Ideal.exp ((if y = (⊤ : EReal) then 0 else y) -
      (if max y 0 + Ideal.log1p (Ideal.exp (-FloatOps.absf (F := Ideal) (φ := .f32) y)) = (⊤ : EReal) then 0
        else max y 0 + Ideal.log1p (Ideal.exp (-FloatOps.absf (F := Ideal) (φ := .f32) y)))) = Ideal.logistic y := by
  have ha : ∀ a : EReal, FloatOps.absf (F := Ideal) (φ := .f32) a = max a (-a) := fun _ => rfl
  have hl : ∀ a : EReal, Ideal.log1p a = Ideal.log (1 + a) := fun _ => rfl
  rw [ha, hl]
  induction y using EReal.rec with
  | bot => simp
  | top =>
    have h0 : Ideal.log 1 = 0 := by rw [← EReal.coe_one, Ideal.log_coe, if_neg (by norm_num), Real.log_one, EReal.coe_zero]
    have h1 : Ideal.exp 0 = 1 := by rw [← EReal.coe_zero, Ideal.exp_coe, Real.exp_zero, EReal.coe_one]
    simp [h0, h1]
  | coe r =>
    have h1 : max (r : EReal) (-(r : EReal)) = ((|r| : ℝ) : EReal) := by
      rw [← EReal.coe_neg, abs_eq_max_neg]; exact (EReal.coe_strictMono.monotone.map_max).symm
    have h2 : Ideal.log (1 + ((Real.exp (-|r|) : ℝ) : EReal)) = ((Real.log (1 + Real.exp (-|r|)) : ℝ) : EReal) := by
      have hp : (0 : ℝ) < 1 + Real.exp (-|r|) := by positivity
      rw [← EReal.coe_one, ← EReal.coe_add, Ideal.log_coe, if_neg (not_le.mpr hp)]
    have h3 : max (r : EReal) 0 = ((max r 0 : ℝ) : EReal) := by
      rw [← EReal.coe_zero]; exact (EReal.coe_strictMono.monotone.map_max).symm
    rw [h1, ← EReal.coe_neg, Ideal.exp_coe, h2, h3, ← EReal.coe_add, if_neg (EReal.coe_ne_top _),
      if_neg (EReal.coe_ne_top _), ← EReal.coe_sub, Ideal.exp_coe, Ideal.logistic_coe]
    congr 1
    have hp : (0 : ℝ) < 1 + Real.exp (-|r|) := by positivity
    rw [Real.exp_sub, Real.exp_add, Real.exp_log hp]
    rcases le_total 0 r with h | h
    · rw [max_eq_left h, abs_of_nonneg h]
      have := Real.exp_pos r
      field_simp
    · rw [max_eq_right h, abs_of_nonpos h, Real.exp_zero, neg_neg, Real.exp_neg]
      have := Real.exp_pos r
      field_simp
      try ring

end Cert.Shading
-- ==== Proof.Ref.lean ====
/- The reference, operation by operation at one sample: the shading network of the argument arrays. -/
module

public import proofs.«01_k».proof.Proof.Gen.ReferenceIdeal.Read
public import proofs.«01_k».proof.Proof.Scalar
public import Idealize.ShloMosaic.Lib.Pipeline.ValueKit

@[expose] public section

set_option maxRecDepth 16384

noncomputable section

namespace Cert.Shading.Ref

open Idealize.ShloMosaic Idealize.SL.Sem Cert.ReferenceIdeal Cert.ReferenceIdeal.Gen Cert.ReferenceIdeal.Read

variable (x0 : FVec Ideal S262144x3 .f32) (x1 : FVec Ideal S3 .f32) (x2 : FVec Ideal S3 .f32) (x3 : FVec Ideal S3 .f32) (x4 : FVec Ideal S3x64 .f32) (x5 : FVec Ideal S64 .f32) (x6 : FVec Ideal S64x64 .f32) (x7 : FVec Ideal S64 .f32) (x8 : FVec Ideal S64x33 .f32) (x9 : FVec Ideal S33 .f32) (x10 : FVec Ideal S35x64 .f32) (x11 : FVec Ideal S64 .f32) (x12 : FVec Ideal S64x3 .f32) (x13 : FVec Ideal S3 .f32) (x14 : FVec Ideal S35x64 .f32) (x15 : FVec Ideal S64 .f32) (x16 : FVec Ideal S64x9 .f32) (x17 : FVec Ideal S9 .f32) (x18 : FVec Ideal S2x64 .f32) (x19 : FVec Ideal S64 .f32) (x20 : FVec Ideal S64x27 .f32) (x21 : FVec Ideal S27 .f32)

/-- The network at sample `n`. -/
abbrev N (n : Fin 262144) : Net := Net.at_ x0 x1 x2 x3 x4 x5 x6 x7 x8 x9 x10 x11 x12 x13 x14 x15 x16 x17 x18 x19 x20 x21 n

variable (n : Fin 262144)

/-- The first geometry layer, times its sharpness. -/
theorem y0_at (i : Fin 64) : val_main_v5 (F := Ideal) x0 x4 x5 (ix2 n i) = (N x0 x1 x2 x3 x4 x5 x6 x7 x8 x9 x10 x11 x12 x13 x14 x15 x16 x17 x18 x19 x20 x21 n).y0 i := by
  pointwise [val_main_v0, val_main_v1, val_main_v2, val_main_v3, val_main_cst, val_main_v4, val_main_v5]
  rfl

/-- The second geometry layer, times its sharpness. -/
theorem y1_at (i : Fin 64) : val_main_v14 (F := Ideal) x0 x4 x5 x6 x7 (ix2 n i) = (N x0 x1 x2 x3 x4 x5 x6 x7 x8 x9 x10 x11 x12 x13 x14 x15 x16 x17 x18 x19 x20 x21 n).y1 i := by
  pointwise [val_main_cst_0, val_main_v7, val_main_v8, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v6_0, val_main_v9, val_main_v10, val_main_v11, val_main_v12, val_main_cst_1, val_main_v13, val_main_v14]
  simp only [ne_eq, not_true_eq_false, if_false, y0_at x0 x1 x2 x3 x4 x5 x6 x7 x8 x9 x10 x11 x12 x13 x14 x15 x16 x17 x18 x19 x20 x21 n, soft_ref]
  rfl

/-- The slope of the first softplus. -/
theorem slope0_at (i : Fin 64) : val_main_v6_1 (F := Ideal) x0 x4 x5 (ix2 n i) = Ideal.logistic ((N x0 x1 x2 x3 x4 x5 x6 x7 x8 x9 x10 x11 x12 x13 x14 x15 x16 x17 x18 x19 x20 x21 n).y0 i) := by
  pointwise [val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v6_0, val_main_call0_cst_0, val_main_call0_v13, val_main_call0_v14, val_main_call0_cst_1, val_main_call0_v15, val_main_call0_v16, val_main_call0_cst_2, val_main_call0_v17, val_main_call0_v18, val_main_call0_cst_3, val_main_call0_v19, val_main_call0_v20, val_main_call0_v21, val_main_v6_1]
  simp only [ne_eq, not_true_eq_false, if_false, y0_at x0 x1 x2 x3 x4 x5 x6 x7 x8 x9 x10 x11 x12 x13 x14 x15 x16 x17 x18 x19 x20 x21 n, lit_inf]
  exact soft_slope _

/-- The slope of the second softplus. -/
theorem slope1_at (i : Fin 64) : val_main_v15_1 (F := Ideal) x0 x4 x5 x6 x7 (ix2 n i) = Ideal.logistic ((N x0 x1 x2 x3 x4 x5 x6 x7 x8 x9 x10 x11 x12 x13 x14 x15 x16 x17 x18 x19 x20 x21 n).y1 i) := by
  pointwise [val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v15_0, val_main_call1_cst_0, val_main_call1_v13, val_main_call1_v14, val_main_call1_cst_1, val_main_call1_v15, val_main_call1_v16, val_main_call1_cst_2, val_main_call1_v17, val_main_call1_v18, val_main_call1_cst_3, val_main_call1_v19, val_main_call1_v20, val_main_call1_v21, val_main_v15_1]
  simp only [ne_eq, not_true_eq_false, if_false, y1_at x0 x1 x2 x3 x4 x5 x6 x7 x8 x9 x10 x11 x12 x13 x14 x15 x16 x17 x18 x19 x20 x21 n, lit_inf]
  exact soft_slope _

/-- The derivative by the second layer, of the seed that picks the first output alone. -/
theorem d1_at (j : Fin 64) : val_main_v33 (F := Ideal) x0 x4 x5 x6 x7 x8 (ix2 n j) = (N x0 x1 x2 x3 x4 x5 x6 x7 x8 x9 x10 x11 x12 x13 x14 x15 x16 x17 x18 x19 x20 x21 n).d1 j := by
  pointwise [val_main_cst_4, val_main_v25, val_main_v26, val_main_cst_5, val_main_v27, val_main_v28, val_main_cst_6, val_main_v29, val_main_v30, val_main_v31, val_main_cst_7, val_main_v32, val_main_v33]
  rw [hundred_cancel, slope1_at x0 x1 x2 x3 x4 x5 x6 x7 x8 x9 x10 x11 x12 x13 x14 x15 x16 x17 x18 x19 x20 x21 n, Finset.sum_eq_zero (s := (Finset.univ : Finset (Fin 32))) fun f _ => zero_mul _, add_zero]
  simp only [Finset.univ_unique, Finset.sum_singleton]
  rfl

/-- The gradient of the signed distance by the position. -/
theorem grad_at (a : Fin 3) : val_main_v40 (F := Ideal) x0 x4 x5 x6 x7 x8 (ix2 n a) = (N x0 x1 x2 x3 x4 x5 x6 x7 x8 x9 x10 x11 x12 x13 x14 x15 x16 x17 x18 x19 x20 x21 n).grad a := by
  pointwise [val_main_v34, val_main_cst_8, val_main_v35, val_main_v36, val_main_v37, val_main_cst_9, val_main_v38, val_main_v39, val_main_v40]
  simp only [hundred_cancel, slope0_at x0 x1 x2 x3 x4 x5 x6 x7 x8 x9 x10 x11 x12 x13 x14 x15 x16 x17 x18 x19 x20 x21 n, d1_at x0 x1 x2 x3 x4 x5 x6 x7 x8 x9 x10 x11 x12 x13 x14 x15 x16 x17 x18 x19 x20 x21 n]
  rfl

/-- The normal. -/
theorem normal_at (a : Fin 3) : val_main_v45 (F := Ideal) x0 x4 x5 x6 x7 x8 (ix2 n a) = (N x0 x1 x2 x3 x4 x5 x6 x7 x8 x9 x10 x11 x12 x13 x14 x15 x16 x17 x18 x19 x20 x21 n).normal a := by
  pointwise [val_main_call4_v0, val_main_call4_cst, val_main_call4_v1, val_main_call4_v2, val_main_v41, val_main_cst_10, val_main_v42, val_main_v43, val_main_v44, val_main_v45]
  simp only [grad_at x0 x1 x2 x3 x4 x5 x6 x7 x8 x9 x10 x11 x12 x13 x14 x15 x16 x17 x18 x19 x20 x21 n]
  rfl

/-- The first geometry layer, in the features' own forward pass. -/
theorem y0_again (i : Fin 64) : val_main_v51 (F := Ideal) x0 x4 x5 (ix2 n i) = (N x0 x1 x2 x3 x4 x5 x6 x7 x8 x9 x10 x11 x12 x13 x14 x15 x16 x17 x18 x19 x20 x21 n).y0 i := by
  pointwise [val_main_v46, val_main_v47, val_main_v48, val_main_v49, val_main_cst_11, val_main_v50, val_main_v51]
  rfl

/-- The second geometry layer, in the features' own forward pass. -/
theorem y1_again (i : Fin 64) : val_main_v60 (F := Ideal) x0 x4 x5 x6 x7 (ix2 n i) = (N x0 x1 x2 x3 x4 x5 x6 x7 x8 x9 x10 x11 x12 x13 x14 x15 x16 x17 x18 x19 x20 x21 n).y1 i := by
  pointwise [val_main_call5_cst, val_main_call5_v0, val_main_call5_v1, val_main_call5_v2, val_main_call5_v3, val_main_call5_v4, val_main_call5_v5, val_main_call5_v6, val_main_call5_v7, val_main_call5_v8, val_main_call5_v9, val_main_call5_v10, val_main_call5_v11, val_main_v52, val_main_cst_12, val_main_v53, val_main_v54, val_main_v55, val_main_v56, val_main_v57, val_main_v58, val_main_cst_13, val_main_v59, val_main_v60]
  simp only [ne_eq, not_true_eq_false, if_false, y0_again x0 x1 x2 x3 x4 x5 x6 x7 x8 x9 x10 x11 x12 x13 x14 x15 x16 x17 x18 x19 x20 x21 n, soft_ref]
  rfl

/-- The geometry features. -/
theorem feat_at (f : Fin 32) : val_main_v68 (F := Ideal) x0 x4 x5 x6 x7 x8 x9 (ix2 n f) = (N x0 x1 x2 x3 x4 x5 x6 x7 x8 x9 x10 x11 x12 x13 x14 x15 x16 x17 x18 x19 x20 x21 n).feat f := by
  pointwise [val_main_call6_cst, val_main_call6_v0, val_main_call6_v1, val_main_call6_v2, val_main_call6_v3, val_main_call6_v4, val_main_call6_v5, val_main_call6_v6, val_main_call6_v7, val_main_call6_v8, val_main_call6_v9, val_main_call6_v10, val_main_call6_v11, val_main_v61, val_main_cst_14, val_main_v62, val_main_v63, val_main_v64, val_main_v65, val_main_v66, val_main_v67, val_main_v68]
  simp only [ne_eq, not_true_eq_false, if_false, y1_again x0 x1 x2 x3 x4 x5 x6 x7 x8 x9 x10 x11 x12 x13 x14 x15 x16 x17 x18 x19 x20 x21 n, soft_ref]
  rfl

/-- The light's direction. -/
theorem ld_at (a : Fin 3) : val_main_v72 (F := Ideal) x1 (ix1 a) = (N x0 x1 x2 x3 x4 x5 x6 x7 x8 x9 x10 x11 x12 x13 x14 x15 x16 x17 x18 x19 x20 x21 n).ld a := by
  pointwise [val_main_call7_v0, val_main_call7_cst, val_main_call7_v1, val_main_v69, val_main_cst_15, val_main_v70, val_main_v71, val_main_v72]
  rfl

/-- The view's direction. -/
theorem view_at (a : Fin 3) : val_main_v80 (F := Ideal) x0 x3 (ix2 n a) = (N x0 x1 x2 x3 x4 x5 x6 x7 x8 x9 x10 x11 x12 x13 x14 x15 x16 x17 x18 x19 x20 x21 n).view a := by
  pointwise [val_main_v73, val_main_v74, val_main_v75, val_main_call8_v0, val_main_call8_cst, val_main_call8_v1, val_main_call8_v2, val_main_v76, val_main_cst_16, val_main_v77, val_main_v78, val_main_v79, val_main_v80]
  rfl

/-- The half-way vector. -/
theorem half_at (a : Fin 3) : val_main_v88 (F := Ideal) x0 x1 x3 (ix2 n a) = (N x0 x1 x2 x3 x4 x5 x6 x7 x8 x9 x10 x11 x12 x13 x14 x15 x16 x17 x18 x19 x20 x21 n).half a := by
  pointwise [val_main_v81, val_main_v82, val_main_v83, val_main_call9_v0, val_main_call9_cst, val_main_call9_v1, val_main_call9_v2, val_main_v84, val_main_cst_17, val_main_v85, val_main_v86, val_main_v87, val_main_v88]
  simp only [ld_at x0 x1 x2 x3 x4 x5 x6 x7 x8 x9 x10 x11 x12 x13 x14 x15 x16 x17 x18 x19 x20 x21 n, view_at x0 x1 x2 x3 x4 x5 x6 x7 x8 x9 x10 x11 x12 x13 x14 x15 x16 x17 x18 x19 x20 x21 n]
  rfl

/-- The cosine between half-way vector and normal, clamped. -/
theorem cosNormal_at : val_main_v91 (F := Ideal) x0 x1 x3 x4 x5 x6 x7 x8 (ix1 n) = clampCos (dot3 (N x0 x1 x2 x3 x4 x5 x6 x7 x8 x9 x10 x11 x12 x13 x14 x15 x16 x17 x18 x19 x20 x21 n).half (N x0 x1 x2 x3 x4 x5 x6 x7 x8 x9 x10 x11 x12 x13 x14 x15 x16 x17 x18 x19 x20 x21 n).normal) := by
  pointwise [val_main_v89, val_main_cst_18, val_main_v90, val_main_cst_19, val_main_cst_20, val_main_call10_v0, val_main_call10_v1, val_main_call10_v2, val_main_call10_v3, val_main_call10_v4, val_main_v91]
  simp only [half_at x0 x1 x2 x3 x4 x5 x6 x7 x8 x9 x10 x11 x12 x13 x14 x15 x16 x17 x18 x19 x20 x21 n, normal_at x0 x1 x2 x3 x4 x5 x6 x7 x8 x9 x10 x11 x12 x13 x14 x15 x16 x17 x18 x19 x20 x21 n]
  rfl

/-- The cosine between half-way vector and view, clamped. -/
theorem cosView_at : val_main_v94 (F := Ideal) x0 x1 x3 (ix1 n) = clampCos (dot3 (N x0 x1 x2 x3 x4 x5 x6 x7 x8 x9 x10 x11 x12 x13 x14 x15 x16 x17 x18 x19 x20 x21 n).half (N x0 x1 x2 x3 x4 x5 x6 x7 x8 x9 x10 x11 x12 x13 x14 x15 x16 x17 x18 x19 x20 x21 n).view) := by
  pointwise [val_main_v92, val_main_cst_21, val_main_v93, val_main_cst_22, val_main_cst_23, val_main_call11_v0, val_main_call11_v1, val_main_call11_v2, val_main_call11_v3, val_main_call11_v4, val_main_v94]
  simp only [half_at x0 x1 x2 x3 x4 x5 x6 x7 x8 x9 x10 x11 x12 x13 x14 x15 x16 x17 x18 x19 x20 x21 n, view_at x0 x1 x2 x3 x4 x5 x6 x7 x8 x9 x10 x11 x12 x13 x14 x15 x16 x17 x18 x19 x20 x21 n]
  rfl

/-- Its magnitude. -/
theorem normalAbs_at : val_main_v95 (F := Ideal) x0 x1 x3 x4 x5 x6 x7 x8 (ix1 n) = max (val_main_v91 (F := Ideal) x0 x1 x3 x4 x5 x6 x7 x8 (ix1 n)) (-(val_main_v91 (F := Ideal) x0 x1 x3 x4 x5 x6 x7 x8 (ix1 n))) := by
  pointwise [val_main_v95]
  rfl

/-- The arc cosine's polynomial of it. -/
theorem normalPoly_at : val_main_v122 (F := Ideal) x0 x1 x3 x4 x5 x6 x7 x8 (ix1 n) = acosPoly (val_main_v95 (F := Ideal) x0 x1 x3 x4 x5 x6 x7 x8 (ix1 n)) := by
  rfl

/-- The arc cosine's square root of it. -/
theorem normalRoot_at : val_main_v100 (F := Ideal) x0 x1 x3 x4 x5 x6 x7 x8 (ix1 n) = Ideal.sqrt (max (1 - val_main_v95 (F := Ideal) x0 x1 x3 x4 x5 x6 x7 x8 (ix1 n)) 0) := by
  pointwise [val_main_cst_24, val_main_v96, val_main_v97, val_main_cst_25, val_main_v98, val_main_v99, val_main_v100]

/-- The angle. -/
theorem normalAcos_at : val_main_v129 (F := Ideal) x0 x1 x3 x4 x5 x6 x7 x8 (ix1 n) = acosP (val_main_v91 (F := Ideal) x0 x1 x3 x4 x5 x6 x7 x8 (ix1 n)) := by
  pointwise [val_main_cst_34, val_main_v123, val_main_v124, val_main_v125, val_main_v126, val_main_cst_35, val_main_v127, val_main_v128, val_main_v129]
  rw [normalPoly_at, normalRoot_at, normalAbs_at]
  rfl

/-- Its magnitude. -/
theorem viewAbs_at : val_main_v130 (F := Ideal) x0 x1 x3 (ix1 n) = max (val_main_v94 (F := Ideal) x0 x1 x3 (ix1 n)) (-(val_main_v94 (F := Ideal) x0 x1 x3 (ix1 n))) := by
  pointwise [val_main_v130]
  rfl

/-- The arc cosine's polynomial of it. -/
theorem viewPoly_at : val_main_v157 (F := Ideal) x0 x1 x3 (ix1 n) = acosPoly (val_main_v130 (F := Ideal) x0 x1 x3 (ix1 n)) := by
  rfl

/-- The arc cosine's square root of it. -/
theorem viewRoot_at : val_main_v135 (F := Ideal) x0 x1 x3 (ix1 n) = Ideal.sqrt (max (1 - val_main_v130 (F := Ideal) x0 x1 x3 (ix1 n)) 0) := by
  pointwise [val_main_cst_36, val_main_v131, val_main_v132, val_main_cst_37, val_main_v133, val_main_v134, val_main_v135]

/-- The angle. -/
theorem viewAcos_at : val_main_v164 (F := Ideal) x0 x1 x3 (ix1 n) = acosP (val_main_v94 (F := Ideal) x0 x1 x3 (ix1 n)) := by
  pointwise [val_main_cst_46, val_main_v158, val_main_v159, val_main_v160, val_main_v161, val_main_cst_47, val_main_v162, val_main_v163, val_main_v164]
  rw [viewPoly_at, viewRoot_at, viewAbs_at]
  rfl

/-- The two angles over π. -/
theorem theta_at (t : Fin 2) : val_main_v169 (F := Ideal) x0 x1 x3 x4 x5 x6 x7 x8 (ix2 n t) = (N x0 x1 x2 x3 x4 x5 x6 x7 x8 x9 x10 x11 x12 x13 x14 x15 x16 x17 x18 x19 x20 x21 n).theta t * lit 0x3EA2F983#32 := by
  pointwise [val_main_v165, val_main_v166, val_main_v167, val_main_cst_48, val_main_v168, val_main_v169]
  rw [normalAcos_at, viewAcos_at, cosNormal_at x0 x1 x2 x3 x4 x5 x6 x7 x8 x9 x10 x11 x12 x13 x14 x15 x16 x17 x18 x19 x20 x21 n, cosView_at x0 x1 x2 x3 x4 x5 x6 x7 x8 x9 x10 x11 x12 x13 x14 x15 x16 x17 x18 x19 x20 x21 n, Net.theta]
  split_ifs <;> rfl

/-- The albedo network's hidden layer. -/
theorem albedo_hid_at (i : Fin 64) : val_main_v175 (F := Ideal) x0 x4 x5 x6 x7 x8 x9 x10 x11 (ix2 n i) = (N x0 x1 x2 x3 x4 x5 x6 x7 x8 x9 x10 x11 x12 x13 x14 x15 x16 x17 x18 x19 x20 x21 n).hid (N x0 x1 x2 x3 x4 x5 x6 x7 x8 x9 x10 x11 x12 x13 x14 x15 x16 x17 x18 x19 x20 x21 n).Wd0 (N x0 x1 x2 x3 x4 x5 x6 x7 x8 x9 x10 x11 x12 x13 x14 x15 x16 x17 x18 x19 x20 x21 n).bd0 i := by
  pointwise [val_main_v170, val_main_v171, val_main_v172, val_main_v173, val_main_v174, val_main_call14_cst, val_main_call14_v0, val_main_v175]
  simp only [feat_at x0 x1 x2 x3 x4 x5 x6 x7 x8 x9 x10 x11 x12 x13 x14 x15 x16 x17 x18 x19 x20 x21 n]
  rfl

/-- The albedo. -/
theorem albedo_at (k : Fin 3) : val_main_v185 (F := Ideal) x0 x4 x5 x6 x7 x8 x9 x10 x11 x12 x13 (ix2 n k) = (N x0 x1 x2 x3 x4 x5 x6 x7 x8 x9 x10 x11 x12 x13 x14 x15 x16 x17 x18 x19 x20 x21 n).albedo k := by
  pointwise [val_main_v176, val_main_v177, val_main_v178, val_main_v179, val_main_v180, val_main_v181, val_main_cst_49, val_main_v182, val_main_v183, val_main_cst_50, val_main_v184, val_main_v185]
  simp only [albedo_hid_at x0 x1 x2 x3 x4 x5 x6 x7 x8 x9 x10 x11 x12 x13 x14 x15 x16 x17 x18 x19 x20 x21 n]
  rfl

/-- The coefficient network's hidden layer. -/
theorem coef_hid_at (i : Fin 64) : val_main_v190 (F := Ideal) x0 x4 x5 x6 x7 x8 x9 x14 x15 (ix2 n i) = (N x0 x1 x2 x3 x4 x5 x6 x7 x8 x9 x10 x11 x12 x13 x14 x15 x16 x17 x18 x19 x20 x21 n).hid (N x0 x1 x2 x3 x4 x5 x6 x7 x8 x9 x10 x11 x12 x13 x14 x15 x16 x17 x18 x19 x20 x21 n).Wc0 (N x0 x1 x2 x3 x4 x5 x6 x7 x8 x9 x10 x11 x12 x13 x14 x15 x16 x17 x18 x19 x20 x21 n).bc0 i := by
  pointwise [val_main_v170, val_main_v186, val_main_v187, val_main_v188, val_main_v189, val_main_call15_cst, val_main_call15_v0, val_main_v190]
  simp only [feat_at x0 x1 x2 x3 x4 x5 x6 x7 x8 x9 x10 x11 x12 x13 x14 x15 x16 x17 x18 x19 x20 x21 n]
  rfl

/-- The coefficients of the specular basis. -/
theorem coef_at (j : Fin 9) : val_main_v194 (F := Ideal) x0 x4 x5 x6 x7 x8 x9 x14 x15 x16 x17 (ix2 n j) = (N x0 x1 x2 x3 x4 x5 x6 x7 x8 x9 x10 x11 x12 x13 x14 x15 x16 x17 x18 x19 x20 x21 n).coef j := by
  pointwise [val_main_v191, val_main_v192, val_main_v193, val_main_v194]
  simp only [coef_hid_at x0 x1 x2 x3 x4 x5 x6 x7 x8 x9 x10 x11 x12 x13 x14 x15 x16 x17 x18 x19 x20 x21 n]
  rfl

/-- The specular network's hidden layer. -/
theorem hs_at (i : Fin 64) : val_main_v199 (F := Ideal) x0 x1 x3 x4 x5 x6 x7 x8 x18 x19 (ix2 n i) = (N x0 x1 x2 x3 x4 x5 x6 x7 x8 x9 x10 x11 x12 x13 x14 x15 x16 x17 x18 x19 x20 x21 n).hs i := by
  pointwise [val_main_v195, val_main_v196, val_main_v197, val_main_v198, val_main_call16_cst, val_main_call16_v0, val_main_v199]
  simp only [theta_at x0 x1 x2 x3 x4 x5 x6 x7 x8 x9 x10 x11 x12 x13 x14 x15 x16 x17 x18 x19 x20 x21 n]
  rfl

/-- The specular basis. -/
theorem basis_at (r : Fin 27) : val_main_v204 (F := Ideal) x0 x1 x3 x4 x5 x6 x7 x8 x18 x19 x20 x21 (ix2 n r) = (N x0 x1 x2 x3 x4 x5 x6 x7 x8 x9 x10 x11 x12 x13 x14 x15 x16 x17 x18 x19 x20 x21 n).basis r := by
  pointwise [val_main_v200, val_main_v201, val_main_v202, val_main_v203, val_main_call17_cst, val_main_call17_v0, val_main_v204]
  simp only [hs_at x0 x1 x2 x3 x4 x5 x6 x7 x8 x9 x10 x11 x12 x13 x14 x15 x16 x17 x18 x19 x20 x21 n]
  rfl

/-- The specular reflection. -/
theorem spec_at (k : Fin 3) : val_main_v206 (F := Ideal) x0 x1 x3 x4 x5 x6 x7 x8 x9 x14 x15 x16 x17 x18 x19 x20 x21 (ix2 n k) = (N x0 x1 x2 x3 x4 x5 x6 x7 x8 x9 x10 x11 x12 x13 x14 x15 x16 x17 x18 x19 x20 x21 n).spec k := by
  pointwise [val_main_v205, val_main_v206]
  simp only [basis_at x0 x1 x2 x3 x4 x5 x6 x7 x8 x9 x10 x11 x12 x13 x14 x15 x16 x17 x18 x19 x20 x21 n, coef_at x0 x1 x2 x3 x4 x5 x6 x7 x8 x9 x10 x11 x12 x13 x14 x15 x16 x17 x18 x19 x20 x21 n]
  rfl

/-- The reference's colour is the shading network's. -/
theorem colour_at (k : Fin 3) : val_main_v219 (F := Ideal) x0 x1 x2 x3 x4 x5 x6 x7 x8 x9 x10 x11 x12 x13 x14 x15 x16 x17 x18 x19 x20 x21 (ix2 n k) = (N x0 x1 x2 x3 x4 x5 x6 x7 x8 x9 x10 x11 x12 x13 x14 x15 x16 x17 x18 x19 x20 x21 n).colour k := by
  pointwise [val_main_v207, val_main_v208, val_main_v209, val_main_v210, val_main_cst_51, val_main_v211, val_main_v212, val_main_call18_cst, val_main_call18_v0, val_main_v213, val_main_v214, val_main_v215, val_main_v216, val_main_v217, val_main_v218, val_main_cst_52, val_main_cst_53, val_main_call19_v0, val_main_call19_v1, val_main_call19_v2, val_main_call19_v3, val_main_call19_v4, val_main_v219]
  simp only [normal_at x0 x1 x2 x3 x4 x5 x6 x7 x8 x9 x10 x11 x12 x13 x14 x15 x16 x17 x18 x19 x20 x21 n, ld_at x0 x1 x2 x3 x4 x5 x6 x7 x8 x9 x10 x11 x12 x13 x14 x15 x16 x17 x18 x19 x20 x21 n, albedo_at x0 x1 x2 x3 x4 x5 x6 x7 x8 x9 x10 x11 x12 x13 x14 x15 x16 x17 x18 x19 x20 x21 n, spec_at x0 x1 x2 x3 x4 x5 x6 x7 x8 x9 x10 x11 x12 x13 x14 x15 x16 x17 x18 x19 x20 x21 n]
  show min (Ideal.ofBits .f32 0x3F800000#32) (max (Ideal.ofBits .f32 0x00000000#32) _) = _
  rw [Ideal.ofBits_one_f32, Ideal.ofBits_zero_f32]
  rfl

/-- … as one array, a row per sample. -/
theorem value_at : val_main_v219 (F := Ideal) x0 x1 x2 x3 x4 x5 x6 x7 x8 x9 x10 x11 x12 x13 x14 x15 x16 x17 x18 x19 x20 x21 = fun i : S262144x3.Idx => (N x0 x1 x2 x3 x4 x5 x6 x7 x8 x9 x10 x11 x12 x13 x14 x15 x16 x17 x18 x19 x20 x21 (i 0)).colour (i 1) := by
  funext i
  conv_lhs => rw [eq_ix2 i]
  exact colour_at x0 x1 x2 x3 x4 x5 x6 x7 x8 x9 x10 x11 x12 x13 x14 x15 x16 x17 x18 x19 x20 x21 (i 0) (i 1)

end Cert.Shading.Ref
-- ==== Proof.lean ====
/- The certificate: the three programs' frames, the one constant that the idealization names, and the equality of the
   kernel's result with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.BodyKernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.BodyKernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Ref
public import Idealize.ShloMosaic.Lib.Claim
public import Idealize.ShloMosaic.Adequacy
public import Idealize.ShloMosaic.Init

@[expose] public section

noncomputable section

namespace Cert.Proof

open Idealize.ShloMosaic Idealize.SL.Sem

/-- The reference's result is the shading network's colours, a row per sample. -/
theorem reference_value (m : (ℓ : Loc ReferenceIdeal.nD ReferenceIdeal.τ ReferenceIdeal.sig) → Buf (Elt Ideal) ℓ) (c : Dev ReferenceIdeal.nD)
    (m' : (ℓ : Loc KernelIdeal.nD KernelIdeal.τ KernelIdeal.sig) → Buf (Elt Ideal) ℓ)
    (h0 : m ((c.tc : Thread ReferenceIdeal.nD ReferenceIdeal.τ).loc ReferenceIdeal.main_arg0) = m' ((c.tc : Thread KernelIdeal.nD KernelIdeal.τ).loc KernelIdeal.main_arg0))
    (h1 : m ((c.tc : Thread ReferenceIdeal.nD ReferenceIdeal.τ).loc ReferenceIdeal.main_arg1) = m' ((c.tc : Thread KernelIdeal.nD KernelIdeal.τ).loc KernelIdeal.main_arg1))
    (h2 : m ((c.tc : Thread ReferenceIdeal.nD ReferenceIdeal.τ).loc ReferenceIdeal.main_arg2) = m' ((c.tc : Thread KernelIdeal.nD KernelIdeal.τ).loc KernelIdeal.main_arg2))
    (h3 : m ((c.tc : Thread ReferenceIdeal.nD ReferenceIdeal.τ).loc ReferenceIdeal.main_arg3) = m' ((c.tc : Thread KernelIdeal.nD KernelIdeal.τ).loc KernelIdeal.main_arg3))
    (h4 : m ((c.tc : Thread ReferenceIdeal.nD ReferenceIdeal.τ).loc ReferenceIdeal.main_arg4) = m' ((c.tc : Thread KernelIdeal.nD KernelIdeal.τ).loc KernelIdeal.main_arg4))
    (h5 : m ((c.tc : Thread ReferenceIdeal.nD ReferenceIdeal.τ).loc ReferenceIdeal.main_arg5) = m' ((c.tc : Thread KernelIdeal.nD KernelIdeal.τ).loc KernelIdeal.main_arg5))
    (h6 : m ((c.tc : Thread ReferenceIdeal.nD ReferenceIdeal.τ).loc ReferenceIdeal.main_arg6) = m' ((c.tc : Thread KernelIdeal.nD KernelIdeal.τ).loc KernelIdeal.main_arg6))
    (h7 : m ((c.tc : Thread ReferenceIdeal.nD ReferenceIdeal.τ).loc ReferenceIdeal.main_arg7) = m' ((c.tc : Thread KernelIdeal.nD KernelIdeal.τ).loc KernelIdeal.main_arg7))
    (h8 : m ((c.tc : Thread ReferenceIdeal.nD ReferenceIdeal.τ).loc ReferenceIdeal.main_arg8) = m' ((c.tc : Thread KernelIdeal.nD KernelIdeal.τ).loc KernelIdeal.main_arg8))
    (h9 : m ((c.tc : Thread ReferenceIdeal.nD ReferenceIdeal.τ).loc ReferenceIdeal.main_arg9) = m' ((c.tc : Thread KernelIdeal.nD KernelIdeal.τ).loc KernelIdeal.main_arg9))
    (h10 : m ((c.tc : Thread ReferenceIdeal.nD ReferenceIdeal.τ).loc ReferenceIdeal.main_arg10) = m' ((c.tc : Thread KernelIdeal.nD KernelIdeal.τ).loc KernelIdeal.main_arg10))
    (h11 : m ((c.tc : Thread ReferenceIdeal.nD ReferenceIdeal.τ).loc ReferenceIdeal.main_arg11) = m' ((c.tc : Thread KernelIdeal.nD KernelIdeal.τ).loc KernelIdeal.main_arg11))
    (h12 : m ((c.tc : Thread ReferenceIdeal.nD ReferenceIdeal.τ).loc ReferenceIdeal.main_arg12) = m' ((c.tc : Thread KernelIdeal.nD KernelIdeal.τ).loc KernelIdeal.main_arg12))
    (h13 : m ((c.tc : Thread ReferenceIdeal.nD ReferenceIdeal.τ).loc ReferenceIdeal.main_arg13) = m' ((c.tc : Thread KernelIdeal.nD KernelIdeal.τ).loc KernelIdeal.main_arg13))
    (h14 : m ((c.tc : Thread ReferenceIdeal.nD ReferenceIdeal.τ).loc ReferenceIdeal.main_arg14) = m' ((c.tc : Thread KernelIdeal.nD KernelIdeal.τ).loc KernelIdeal.main_arg14))
    (h15 : m ((c.tc : Thread ReferenceIdeal.nD ReferenceIdeal.τ).loc ReferenceIdeal.main_arg15) = m' ((c.tc : Thread KernelIdeal.nD KernelIdeal.τ).loc KernelIdeal.main_arg15))
    (h16 : m ((c.tc : Thread ReferenceIdeal.nD ReferenceIdeal.τ).loc ReferenceIdeal.main_arg16) = m' ((c.tc : Thread KernelIdeal.nD KernelIdeal.τ).loc KernelIdeal.main_arg16))
    (h17 : m ((c.tc : Thread ReferenceIdeal.nD ReferenceIdeal.τ).loc ReferenceIdeal.main_arg17) = m' ((c.tc : Thread KernelIdeal.nD KernelIdeal.τ).loc KernelIdeal.main_arg17))
    (h18 : m ((c.tc : Thread ReferenceIdeal.nD ReferenceIdeal.τ).loc ReferenceIdeal.main_arg18) = m' ((c.tc : Thread KernelIdeal.nD KernelIdeal.τ).loc KernelIdeal.main_arg18))
    (h19 : m ((c.tc : Thread ReferenceIdeal.nD ReferenceIdeal.τ).loc ReferenceIdeal.main_arg19) = m' ((c.tc : Thread KernelIdeal.nD KernelIdeal.τ).loc KernelIdeal.main_arg19))
    (h20 : m ((c.tc : Thread ReferenceIdeal.nD ReferenceIdeal.τ).loc ReferenceIdeal.main_arg20) = m' ((c.tc : Thread KernelIdeal.nD KernelIdeal.τ).loc KernelIdeal.main_arg20))
    (h21 : m ((c.tc : Thread ReferenceIdeal.nD ReferenceIdeal.τ).loc ReferenceIdeal.main_arg21) = m' ((c.tc : Thread KernelIdeal.nD KernelIdeal.τ).loc KernelIdeal.main_arg21)) :
    ReferenceIdeal.Read.val_main_v219 (F := Ideal)
      (m ((c.tc : Thread ReferenceIdeal.nD ReferenceIdeal.τ).loc ReferenceIdeal.main_arg0))
      (m ((c.tc : Thread ReferenceIdeal.nD ReferenceIdeal.τ).loc ReferenceIdeal.main_arg1))
      (m ((c.tc : Thread ReferenceIdeal.nD ReferenceIdeal.τ).loc ReferenceIdeal.main_arg2))
      (m ((c.tc : Thread ReferenceIdeal.nD ReferenceIdeal.τ).loc ReferenceIdeal.main_arg3))
      (m ((c.tc : Thread ReferenceIdeal.nD ReferenceIdeal.τ).loc ReferenceIdeal.main_arg4))
      (m ((c.tc : Thread ReferenceIdeal.nD ReferenceIdeal.τ).loc ReferenceIdeal.main_arg5))
      (m ((c.tc : Thread ReferenceIdeal.nD ReferenceIdeal.τ).loc ReferenceIdeal.main_arg6))
      (m ((c.tc : Thread ReferenceIdeal.nD ReferenceIdeal.τ).loc ReferenceIdeal.main_arg7))
      (m ((c.tc : Thread ReferenceIdeal.nD ReferenceIdeal.τ).loc ReferenceIdeal.main_arg8))
      (m ((c.tc : Thread ReferenceIdeal.nD ReferenceIdeal.τ).loc ReferenceIdeal.main_arg9))
      (m ((c.tc : Thread ReferenceIdeal.nD ReferenceIdeal.τ).loc ReferenceIdeal.main_arg10))
      (m ((c.tc : Thread ReferenceIdeal.nD ReferenceIdeal.τ).loc ReferenceIdeal.main_arg11))
      (m ((c.tc : Thread ReferenceIdeal.nD ReferenceIdeal.τ).loc ReferenceIdeal.main_arg12))
      (m ((c.tc : Thread ReferenceIdeal.nD ReferenceIdeal.τ).loc ReferenceIdeal.main_arg13))
      (m ((c.tc : Thread ReferenceIdeal.nD ReferenceIdeal.τ).loc ReferenceIdeal.main_arg14))
      (m ((c.tc : Thread ReferenceIdeal.nD ReferenceIdeal.τ).loc ReferenceIdeal.main_arg15))
      (m ((c.tc : Thread ReferenceIdeal.nD ReferenceIdeal.τ).loc ReferenceIdeal.main_arg16))
      (m ((c.tc : Thread ReferenceIdeal.nD ReferenceIdeal.τ).loc ReferenceIdeal.main_arg17))
      (m ((c.tc : Thread ReferenceIdeal.nD ReferenceIdeal.τ).loc ReferenceIdeal.main_arg18))
      (m ((c.tc : Thread ReferenceIdeal.nD ReferenceIdeal.τ).loc ReferenceIdeal.main_arg19))
      (m ((c.tc : Thread ReferenceIdeal.nD ReferenceIdeal.τ).loc ReferenceIdeal.main_arg20))
      (m ((c.tc : Thread ReferenceIdeal.nD ReferenceIdeal.τ).loc ReferenceIdeal.main_arg21))
      = fun i => (Shading.net m' c (i 0)).colour (i 1) := by
  rw [h0, h1, h2, h3, h4, h5, h6, h7, h8, h9, h10, h11, h12, h13, h14, h15, h16, h17, h18, h19, h20, h21]
  exact Shading.Ref.value_at _ _ _ _ _ _ _ _ _ _ _ _ _ _ _ _ _ _ _ _ _ _

/-- Over the extended reals, from equal arguments, the kernel and the reference leave the same colours. -/
theorem same_value : Cert.algebraic_KernelIdeal_ReferenceIdeal := by
  intro m g m' g' _ hagree
  refine ⟨fun c => fun i => (Shading.net m c (i 0)).colour (i 1), ?_, ?_⟩
  · refine (θ_run _ _ _).mono (fun r h c => ?_) (θ_run_and (KernelIdeal.Gen.unchanged m g) (KernelIdeal.Gen.run_main m g))
    exact ⟨((h.2 c).2 KernelIdeal.main_v57 (Pipeline.mem_restRefs_of KernelIdeal.main_v57 (by decide) (by decide))).trans (Shading.tail_at m c), h.1 c⟩
  · refine (θ_run _ _ _).mono (fun r h c => ?_) (ReferenceIdeal.Value.run m' g')
    obtain ⟨a0, a1, a2, a3, a4, a5, a6, a7, a8, a9, a10, a11, a12, a13, a14, a15, a16, a17, a18, a19, a20, a21⟩ := hagree c
    refine ⟨(h c).1.trans ((ReferenceIdeal.Read.val_main_v219_eq (StableHlo.launchContents m' c)).trans ?_), (h c).2⟩
    exact reference_value m' c m a0 a1 a2 a3 a4 a5 a6 a7 a8 a9 a10 a11 a12 a13 a14 a15 a16 a17 a18 a19 a20 a21

/-- The reference leaves its arguments as they were, and it has no semaphores. -/
theorem reference_frame : Cert.quiescent_ReferenceIdeal := by
  intro m ρ _
  exact (θ_run _ _ _).mono (fun r h => ⟨fun c => (h c).2, sem_eq_zero_of_no_sems (by decide) r.2⟩) (ReferenceIdeal.Value.run m ρ)

/-- Everything that is claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame,
    IdealRules.named_const.statement Cert.KernelIdeal.κ "hundredth" .f32 0x3C23D70A#32 ((1 / 100 : ℝ) : EReal) rfl,
    same_value⟩

end Cert.Proof

end
